-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  IdealRules.named_const.Statement Cert.KernelIdeal.κ "inv_ctx" .f32 0x3BA3D70A#32 ((200⁻¹ : ℝ) : EReal)

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S200 : Shape := ⟨1, ![200]⟩
abbrev S_ : Shape := ⟨0, ![]⟩
abbrev S3 : Shape := ⟨1, ![3]⟩
abbrev S1000000x64 : Shape := ⟨2, ![1000000, 64]⟩
abbrev S2048x64 : Shape := ⟨2, ![2048, 64]⟩
abbrev S64x64 : Shape := ⟨2, ![64, 64]⟩
abbrev S64x3 : Shape := ⟨2, ![64, 3]⟩
abbrev S64 : Shape := ⟨1, ![64]⟩
abbrev S64x128 : Shape := ⟨2, ![64, 128]⟩
abbrev S1x64 : Shape := ⟨2, ![1, 64]⟩
abbrev S1 : Shape := ⟨1, ![1]⟩
abbrev S1000000 : Shape := ⟨1, ![1000000]⟩

class Facts : Prop where
  bcast_S_S200 : S_.BroadcastsInDim S200 (![] : Fin 0 → Fin S200.rank)
  reducesTo_S200_S_d0 : S200.ReducesTo [0] S_
  h_S_ : 0 < S_.numel

variable [Facts]

def fn_part1 {F : FTy → Type} [FloatOps F] (main_v5 : IVec S_ 1) (main_v8 : IVec S_ 1) (main_v11 : IVec S_ 1) (main_v14 : IVec S_ 1) : IVec S_ 1 :=
  let main_v15 : IVec S_ 1 := andi main_v5 main_v8
  let main_v16 : IVec S_ 1 := andi main_v15 main_v11
  let main_v17 : IVec S_ 1 := andi main_v16 main_v14
  main_v17

def fn {F : FTy → Type} [FloatOps F] (main_arg0 : IVec S200 32) (main_arg1 : IVec S_ 32) (main_arg2 : IVec S_ 32) (main_arg3 : IVec S_ 32) (main_arg4 : FVec F S3 .f32) (main_arg5 : FVec F S1000000x64 .f32) (main_arg6 : FVec F S2048x64 .f32) (main_arg7 : FVec F S2048x64 .f32) (main_arg8 : FVec F S64x64 .f32) (main_arg9 : FVec F S64x3 .f32) (main_arg10 : FVec F S64 .f32) (main_arg11 : FVec F S64x128 .f32) (main_arg12 : FVec F S64 .f32) (main_arg13 : FVec F S1x64 .f32) (main_arg14 : FVec F S1 .f32) (main_arg15 : FVec F S1000000x64 .f32) (main_arg16 : FVec F S1000000 .f32) : IVec S_ 1 :=
  let main_c : IVec S_ 32 := constantI S_ 32 0#32
  let main_v0 : IVec S200 32 := broadcastInDim S200 ![] bcast_S_S200 main_c
  let main_v1 : IVec S200 1 := cmpi .sge main_arg0 main_v0
  let main_c_0 : IVec S_ 32 := constantI S_ 32 1000000#32
  let main_v2 : IVec S200 32 := broadcastInDim S200 ![] bcast_S_S200 main_c_0
  let main_v3 : IVec S200 1 := cmpi .slt main_arg0 main_v2
  let main_v4 : IVec S200 1 := andi main_v1 main_v3
  let main_c_1 : IVec S_ 1 := constantI S_ 1 1#1
  let main_v5 : IVec S_ 1 := (fun x v => Host.reduce IntOp.andi x v reducesTo_S200_S_d0 h_S_) main_v4 main_c_1
  let main_c_2 : IVec S_ 32 := constantI S_ 32 0#32
  let main_v6 : IVec S_ 1 := cmpi .sge main_arg1 main_c_2
  let main_c_3 : IVec S_ 32 := constantI S_ 32 2048#32
  let main_v7 : IVec S_ 1 := cmpi .slt main_arg1 main_c_3
  let main_v8 : IVec S_ 1 := andi main_v6 main_v7
  let main_c_4 : IVec S_ 32 := constantI S_ 32 0#32
  let main_v9 : IVec S_ 1 := cmpi .sge main_arg2 main_c_4
  let main_c_5 : IVec S_ 32 := constantI S_ 32 2048#32
  let main_v10 : IVec S_ 1 := cmpi .slt main_arg2 main_c_5
  let main_v11 : IVec S_ 1 := andi main_v9 main_v10
  let main_c_6 : IVec S_ 32 := constantI S_ 32 0#32
  let main_v12 : IVec S_ 1 := cmpi .sge main_arg3 main_c_6
  let main_c_7 : IVec S_ 32 := constantI S_ 32 64#32
  let main_v13 : IVec S_ 1 := cmpi .slt main_arg3 main_c_7
  let main_v14 : IVec S_ 1 := andi main_v12 main_v13
  fn_part1 (F := F) main_v5 main_v8 main_v11 main_v14
-- ==== Kernel.lean ====
abbrev S200 : Shape := ⟨1, ![200]⟩
abbrev S_ : Shape := ⟨0, ![]⟩
abbrev S3 : Shape := ⟨1, ![3]⟩
abbrev S1000000x64 : Shape := ⟨2, ![1000000, 64]⟩
abbrev S2048x64 : Shape := ⟨2, ![2048, 64]⟩
abbrev S64x64 : Shape := ⟨2, ![64, 64]⟩
abbrev S64x3 : Shape := ⟨2, ![64, 3]⟩
abbrev S64 : Shape := ⟨1, ![64]⟩
abbrev S64x128 : Shape := ⟨2, ![64, 128]⟩
abbrev S1x64 : Shape := ⟨2, ![1, 64]⟩
abbrev S1 : Shape := ⟨1, ![1]⟩
abbrev S1000000 : Shape := ⟨1, ![1000000]⟩
abbrev S200x64 : Shape := ⟨2, ![200, 64]⟩
abbrev S128 : Shape := ⟨1, ![128]⟩
abbrev S25x1x10000 : Shape := ⟨3, ![25, 1, 10000]⟩
abbrev S10000x64 : Shape := ⟨2, ![10000, 64]⟩
abbrev S1x1x10000 : Shape := ⟨3, ![1, 1, 10000]⟩
abbrev S1x10000 : Shape := ⟨2, ![1, 10000]⟩
abbrev S25x10000 : Shape := ⟨2, ![25, 10000]⟩
abbrev S25x4x10000 : Shape := ⟨3, ![25, 4, 10000]⟩

abbrev nBuf : Space → Nat
  | .hbm => 51
  | .vmem => 23
  | .smem => 3
  | _ => 0

abbrev bufTy : (tb : Table) → Fin (tcTables nBuf tb) → BufTy
  | .hbm, ⟨0, _⟩ => ⟨S200, .i32⟩
  | .hbm, ⟨1, _⟩ => ⟨S_, .i32⟩
  | .hbm, ⟨2, _⟩ => ⟨S_, .i32⟩
  | .hbm, ⟨3, _⟩ => ⟨S_, .i32⟩
  | .hbm, ⟨4, _⟩ => ⟨S3, .f32⟩
  | .hbm, ⟨5, _⟩ => ⟨S1000000x64, .f32⟩
  | .hbm, ⟨6, _⟩ => ⟨S2048x64, .f32⟩
  | .hbm, ⟨7, _⟩ => ⟨S2048x64, .f32⟩
  | .hbm, ⟨8, _⟩ => ⟨S64x64, .f32⟩
  | .hbm, ⟨9, _⟩ => ⟨S64x3, .f32⟩
  | .hbm, ⟨10, _⟩ => ⟨S64, .f32⟩
  | .hbm, ⟨11, _⟩ => ⟨S64x128, .f32⟩
  | .hbm, ⟨12, _⟩ => ⟨S64, .f32⟩
  | .hbm, ⟨13, _⟩ => ⟨S1x64, .f32⟩
  | .hbm, ⟨14, _⟩ => ⟨S1, .f32⟩
  | .hbm, ⟨15, _⟩ => ⟨S1000000x64, .f32⟩
  | .hbm, ⟨16, _⟩ => ⟨S1000000, .f32⟩
  | .hbm, ⟨17, _⟩ => ⟨S1, .i32⟩
  | .hbm, ⟨18, _⟩ => ⟨S1, .i32⟩
  | .hbm, ⟨19, _⟩ => ⟨S1, .i32⟩
  | .hbm, ⟨20, _⟩ => ⟨S3, .i32⟩
  | .hbm, ⟨21, _⟩ => ⟨S1x64, .f32⟩
  | .hbm, ⟨22, _⟩ => ⟨S1x64, .f32⟩
  | .hbm, ⟨23, _⟩ => ⟨S64, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S64, .f32⟩
  | .hbm, ⟨28, _⟩ => ⟨S128, .f32⟩
  | .hbm, ⟨29, _⟩ => ⟨S64, .f32⟩
  | .hbm, ⟨30, _⟩ => ⟨S64, .f32⟩
  | .hbm, ⟨31, _⟩ => ⟨S64, .f32⟩
  | .hbm, ⟨32, _⟩ => ⟨S1, .f32⟩
  | .hbm, ⟨33, _⟩ => ⟨S1, .f32⟩
  | .hbm, ⟨34, _⟩ => ⟨S_, .f32⟩
  | .hbm, ⟨35, _⟩ => ⟨S1x64, .f32⟩
  | .hbm, ⟨36, _⟩ => ⟨S25x1x10000, .f32⟩
  | .hbm, ⟨37, _⟩ => ⟨S25x1x10000, .f32⟩
  | .hbm, ⟨38, _⟩ => ⟨S25x1x10000, .f32⟩
  | .hbm, ⟨39, _⟩ => ⟨S25x1x10000, .f32⟩
  | .hbm, ⟨40, _⟩ => ⟨S25x10000, .f32⟩
  | .hbm, ⟨41, _⟩ => ⟨S25x10000, .f32⟩
  | .hbm, ⟨42, _⟩ => ⟨S25x10000, .f32⟩
  | .hbm, ⟨43, _⟩ => ⟨S25x10000, .f32⟩
  | .hbm, ⟨44, _⟩ => ⟨S25x1x10000, .f32⟩
  | .hbm, ⟨45, _⟩ => ⟨S25x1x10000, .f32⟩
  | .hbm, ⟨46, _⟩ => ⟨S25x1x10000, .f32⟩
  | .hbm, ⟨47, _⟩ => ⟨S25x1x10000, .f32⟩
  | .hbm, ⟨48, _⟩ => ⟨S25x4x10000, .f32⟩
  | .hbm, ⟨49, _⟩ => ⟨S1000000, .f32⟩
  | .hbm, ⟨50, _⟩ => ⟨S1000000, .f32⟩
  | .local _ .vmem, ⟨0, _⟩ => ⟨S2048x64, .f32⟩
  | .local _ .vmem, ⟨1, _⟩ => ⟨S2048x64, .f32⟩
  | .local _ .vmem, ⟨2, _⟩ => ⟨S64x64, .f32⟩
  | .local _ .vmem, ⟨3, _⟩ => ⟨S1x64, .f32⟩
  | .local _ .vmem, ⟨4, _⟩ => ⟨S1x64, .f32⟩
  | .local _ .vmem, ⟨5, _⟩ => ⟨S200x64, .f32⟩
  | .local _ .vmem, ⟨6, _⟩ => ⟨S1x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S1x1x10000, .f32⟩
  | .local _ .vmem, ⟨16, _⟩ => ⟨S1x1x10000, .f32⟩
  | .local _ .vmem, ⟨17, _⟩ => ⟨S1x1x10000, .f32⟩
  | .local _ .vmem, ⟨18, _⟩ => ⟨S1x1x10000, .f32⟩
  | .local _ .vmem, ⟨19, _⟩ => ⟨S1x1x10000, .f32⟩
  | .local _ .vmem, ⟨20, _⟩ => ⟨S1x1x10000, .f32⟩
  | .local _ .vmem, ⟨21, _⟩ => ⟨S1x1x10000, .f32⟩
  | .local _ .vmem, ⟨22, _⟩ => ⟨S1x1x10000, .f32⟩
  | .local _ .smem, ⟨0, _⟩ => ⟨S200, .i32⟩
  | .local _ .smem, ⟨1, _⟩ => ⟨S3, .i32⟩
  | .local _ .smem, ⟨2, _⟩ => ⟨S3, .f32⟩
  | _, _ => ⟨S200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4_0 : Ref sig .tc := ⟨.hbm, 21, rfl⟩
abbrev main_v4_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18_0 : Ref sig .tc := ⟨.hbm, 36, rfl⟩
abbrev main_v18_1 : Ref sig .tc := ⟨.hbm, 37, rfl⟩
abbrev main_v18_2 : Ref sig .tc := ⟨.hbm, 38, rfl⟩
abbrev main_v18_3 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg6_0 : Ref sig .tc := ⟨.vmem, 3, rfl⟩
abbrev cc0_stg7_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg8_1 : Ref sig .tc := ⟨.vmem, 22, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23
abbrev cc1_sem8_0 : DmaSem sig := 24
abbrev cc1_sem8_1 : DmaSem sig := 25

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c200_i32 : BitVec 32 := 200#32
  let v0 : BitVec 32 := Scalar.addi c0_i32 c200_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg11 : BitVec 32 := Scf.iv c0_i32 c1_i32 k0_t1
  let v20 : Index := Scalar.indexCast arg11
  ![v20.toNat]
def k0_off2 (k0_t1 : Fin k0_t1_loop.trips) : Fin 2 → Nat :=
  let c0_i32 : BitVec 32 := 0#32
  let c1_i32 : BitVec 32 := 1#32
  let arg11 : BitVec 32 := Scf.iv c0_i32 c1_i32 k0_t1
  let c0_i32_15 : BitVec 32 := 0#32
  ![arg11.toNat, 0]
def k0_off3 (v21 : BitVec 32) : Fin 2 → Nat :=
  let c0_i32_16 : BitVec 32 := 0#32
  ![v21.toNat, 0]

def k0_chk1 (v21 : BitVec 32) : Prop :=
  (∀ a, (k0_off3 v21) a + S1x64.size a ≤ S1000000x64.size a)
theorem k0_off3_inb : ∀ (v21 : BitVec 32) (k0_hw1 : k0_chk1 v21), ∀ a, (k0_off3 v21) a + S1x64.size a ≤ S1000000x64.size a := fun v21 k0_hw1 => k0_hw1

@[reducible] def k0_t2_loop : Scf.Loop 32 :=
  let c0_i32_1 : BitVec 32 := 0#32
  let c200_i32_2 : BitVec 32 := 200#32
  let v1 : BitVec 32 := Scalar.addi c0_i32_1 c200_i32_2
  let c1_i32_3 : BitVec 32 := 1#32
  ⟨c0_i32_1, v1, c1_i32_3⟩
def k0_off4 (k0_t2 : Fin k0_t2_loop.trips) : Fin 1 → Nat :=
  let c0_i32_1 : BitVec 32 := 0#32
  let c1_i32_3 : BitVec 32 := 1#32
  let arg11 : BitVec 32 := Scf.iv c0_i32_1 c1_i32_3 k0_t2
  let v20 : Index := Scalar.indexCast arg11
  ![v20.toNat]
def k0_off5 (k0_t2 : Fin k0_t2_loop.trips) : Fin 2 → Nat :=
  let c0_i32_1 : BitVec 32 := 0#32
  let c1_i32_3 : BitVec 32 := 1#32
  let arg11 : BitVec 32 := Scf.iv c0_i32_1 c1_i32_3 k0_t2
  let c0_i32_15 : BitVec 32 := 0#32
  ![arg11.toNat, 0]
def k0_off6 (v21 : BitVec 32) : Fin 2 → Nat :=
  let c0_i32_16 : BitVec 32 := 0#32
  ![v21.toNat, 0]

def k0_chk2 (v21 : BitVec 32) : Prop :=
  (∀ a, (k0_off6 v21) a + S1x64.size a ≤ S1000000x64.size a)
theorem k0_off6_inb : ∀ (v21 : BitVec 32) (k0_hw2 : k0_chk2 v21), ∀ a, (k0_off6 v21) a + S1x64.size a ≤ S1000000x64.size a := fun v21 k0_hw2 => k0_hw2

def k0_off7 (v8 : BitVec 32) : Fin 2 → Nat :=
  let v9 : Index := Scalar.indexCast v8
  let c0_10 : Index := 0#32
  ![v9.toNat, 0]

def k0_chk3 (v8 : BitVec 32) : Prop :=
  (∀ a, (k0_off7 v8) a + S1x64.size a ≤ S2048x64.size a)
theorem k0_off7_inb : ∀ (v8 : BitVec 32) (k0_hw3 : k0_chk3 v8), ∀ a, (k0_off7 v8) a + S1x64.size a ≤ S2048x64.size a := fun v8 k0_hw3 => k0_hw3

def k0_off8 (v11 : BitVec 32) : Fin 2 → Nat :=
  let v12 : Index := Scalar.indexCast v11
  let c0_11 : Index := 0#32
  ![v12.toNat, 0]

def k0_chk4 (v11 : BitVec 32) : Prop :=
  (∀ a, (k0_off8 v11) a + S1x64.size a ≤ S2048x64.size a)
theorem k0_off8_inb : ∀ (v11 : BitVec 32) (k0_hw4 : k0_chk4 v11), ∀ a, (k0_off8 v11) a + S1x64.size a ≤ S2048x64.size a := fun v11 k0_hw4 => k0_hw4

def k0_off9 (v14 : BitVec 32) : Fin 2 → Nat :=
  let v15 : Index := Scalar.indexCast v14
  let c0_12 : Index := 0#32
  ![v15.toNat, 0]

def k0_chk5 (v14 : BitVec 32) : Prop :=
  (∀ a, (k0_off9 v14) a + S1x64.size a ≤ S64x64.size a)
theorem k0_off9_inb : ∀ (v14 : BitVec 32) (k0_hw5 : k0_chk5 v14), ∀ a, (k0_off9 v14) a + S1x64.size a ≤ S64x64.size a := fun v14 k0_hw5 => k0_hw5

abbrev stage0_0 : Fin 1 → Memref sig .tc .smem S200 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S3 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc1_transform_2 (i : grid1.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c0_i32 : BitVec 32 := 0#32
  let c0_i32_0 : BitVec 32 := 0#32
  ![v1.toNat, c0_i32.toNat]

def cc1_transform_4 (i : grid1.Coords) : Fin 2 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c0_i32 : BitVec 32 := 0#32
  let c0_i32_0 : BitVec 32 := 0#32
  ![v1.toNat, c0_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S1x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1x10000 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1x10000 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x1x10000 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x1x10000 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== KernelIdeal.lean ====
variable {F : FTy → Type} [FloatOps F] [Named F]
def κ : String → Option EReal := fun
  | "inv_ctx" => some ((200⁻¹ : ℝ) : EReal)
  | _ => none
-- ==== ReferenceIdeal.lean ====
abbrev S200 : Shape := ⟨1, ![200]⟩
abbrev S_ : Shape := ⟨0, ![]⟩
abbrev S3 : Shape := ⟨1, ![3]⟩
abbrev S1000000x64 : Shape := ⟨2, ![1000000, 64]⟩
abbrev S2048x64 : Shape := ⟨2, ![2048, 64]⟩
abbrev S64x64 : Shape := ⟨2, ![64, 64]⟩
abbrev S64x3 : Shape := ⟨2, ![64, 3]⟩
abbrev S64 : Shape := ⟨1, ![64]⟩
abbrev S64x128 : Shape := ⟨2, ![64, 128]⟩
abbrev S1x64 : Shape := ⟨2, ![1, 64]⟩
abbrev S1 : Shape := ⟨1, ![1]⟩
abbrev S1000000 : Shape := ⟨1, ![1000000]⟩
abbrev S200x1 : Shape := ⟨2, ![200, 1]⟩
abbrev S1x1 : Shape := ⟨2, ![1, 1]⟩
abbrev S200x64 : Shape := ⟨2, ![200, 64]⟩
abbrev S128 : Shape := ⟨1, ![128]⟩

abbrev nBuf : Space → Nat
  | .hbm => 104
  | .vmem => 0
  | .smem => 0
  | _ => 0

abbrev bufTy : (tb : Table) → Fin (tcTables nBuf tb) → BufTy
  | .hbm, ⟨0, _⟩ => ⟨S200, .i32⟩
  | .hbm, ⟨1, _⟩ => ⟨S_, .i32⟩
  | .hbm, ⟨2, _⟩ => ⟨S_, .i32⟩
  | .hbm, ⟨3, _⟩ => ⟨S_, .i32⟩
  | .hbm, ⟨4, _⟩ => ⟨S3, .f32⟩
  | .hbm, ⟨5, _⟩ => ⟨S1000000x64, .f32⟩
  | .hbm, ⟨6, _⟩ => ⟨S2048x64, .f32⟩
  | .hbm, ⟨7, _⟩ => ⟨S2048x64, .f32⟩
  | .hbm, ⟨8, _⟩ => ⟨S64x64, .f32⟩
  | .hbm, ⟨9, _⟩ => ⟨S64x3, .f32⟩
  | .hbm, ⟨10, _⟩ => ⟨S64, .f32⟩
  | .hbm, ⟨11, _⟩ => ⟨S64x128, .f32⟩
  | .hbm, ⟨12, _⟩ => ⟨S64, .f32⟩
  | .hbm, ⟨13, _⟩ => ⟨S1x64, .f32⟩
  | .hbm, ⟨14, _⟩ => ⟨S1, .f32⟩
  | .hbm, ⟨15, _⟩ => ⟨S1000000x64, .f32⟩
  | .hbm, ⟨16, _⟩ => ⟨S1000000, .f32⟩
  | .hbm, ⟨17, _⟩ => ⟨S_, .i32⟩
  | .hbm, ⟨18, _⟩ => ⟨S200, .i32⟩
  | .hbm, ⟨19, _⟩ => ⟨S200, .i1⟩
  | .hbm, ⟨20, _⟩ => ⟨S_, .i32⟩
  | .hbm, ⟨21, _⟩ => ⟨S200, .i32⟩
  | .hbm, ⟨22, _⟩ => ⟨S200, .i32⟩
  | .hbm, ⟨23, _⟩ => ⟨S200, .i32⟩
  | .hbm, ⟨24, _⟩ => ⟨S200x1, .i32⟩
  | .hbm, ⟨25, _⟩ => ⟨S1, .i32⟩
  | .hbm, ⟨26, _⟩ => ⟨S_, .i32⟩
  | .hbm, ⟨27, _⟩ => ⟨S200x1, .i32⟩
  | .hbm, ⟨28, _⟩ => ⟨S200x1, .i1⟩
  | .hbm, ⟨29, _⟩ => ⟨S1x1, .i32⟩
  | .hbm, ⟨30, _⟩ => ⟨S200x1, .i32⟩
  | .hbm, ⟨31, _⟩ => ⟨S200x1, .i1⟩
  | .hbm, ⟨32, _⟩ => ⟨S200x1, .i1⟩
  | .hbm, ⟨33, _⟩ => ⟨S_, .i1⟩
  | .hbm, ⟨34, _⟩ => ⟨S200, .i1⟩
  | .hbm, ⟨35, _⟩ => ⟨S200x64, .f32⟩
  | .hbm, ⟨36, _⟩ => ⟨S200x64, .i1⟩
  | .hbm, ⟨37, _⟩ => ⟨S_, .f32⟩
  | .hbm, ⟨38, _⟩ => ⟨S200x64, .f32⟩
  | .hbm, ⟨39, _⟩ => ⟨S200x64, .f32⟩
  | .hbm, ⟨40, _⟩ => ⟨S_, .f32⟩
  | .hbm, ⟨41, _⟩ => ⟨S64, .f32⟩
  | .hbm, ⟨42, _⟩ => ⟨S_, .f32⟩
  | .hbm, ⟨43, _⟩ => ⟨S64, .f32⟩
  | .hbm, ⟨44, _⟩ => ⟨S64, .f32⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i1⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S1x64, .f32⟩
  | .hbm, ⟨59, _⟩ => ⟨S64, .f32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i1⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S1x64, .f32⟩
  | .hbm, ⟨74, _⟩ => ⟨S64, .f32⟩
  | .hbm, ⟨75, _⟩ => ⟨S64, .f32⟩
  | .hbm, ⟨76, _⟩ => ⟨S_, .i32⟩
  | .hbm, ⟨77, _⟩ => ⟨S_, .i1⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S_, .i32⟩
  | .hbm, ⟨83, _⟩ => ⟨S_, .i1⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S_, .i32⟩
  | .hbm, ⟨89, _⟩ => ⟨S1x64, .f32⟩
  | .hbm, ⟨90, _⟩ => ⟨S64, .f32⟩
  | .hbm, ⟨91, _⟩ => ⟨S64, .f32⟩
  | .hbm, ⟨92, _⟩ => ⟨S64, .f32⟩
  | .hbm, ⟨93, _⟩ => ⟨S64, .f32⟩
  | .hbm, ⟨94, _⟩ => ⟨S64, .f32⟩
  | .hbm, ⟨95, _⟩ => ⟨S128, .f32⟩
  | .hbm, ⟨96, _⟩ => ⟨S64, .f32⟩
  | .hbm, ⟨97, _⟩ => ⟨S64, .f32⟩
  | .hbm, ⟨98, _⟩ => ⟨S64, .f32⟩
  | .hbm, ⟨99, _⟩ => ⟨S1, .f32⟩
  | .hbm, ⟨100, _⟩ => ⟨S1, .f32⟩
  | .hbm, ⟨101, _⟩ => ⟨S_, .f32⟩
  | .hbm, ⟨102, _⟩ => ⟨S1000000, .f32⟩
  | .hbm, ⟨103, _⟩ => ⟨S1000000, .f32⟩
  | _, _ => ⟨S200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v0 : Ref sig .tc := ⟨.hbm, 39, rfl⟩
abbrev main_cst : Ref sig .tc := ⟨.hbm, 40, rfl⟩
abbrev main_v1 : Ref sig .tc := ⟨.hbm, 41, rfl⟩
abbrev main_cst_0 : Ref sig .tc := ⟨.hbm, 42, rfl⟩
abbrev main_v2 : Ref sig .tc := ⟨.hbm, 43, rfl⟩
abbrev main_v3 : Ref sig .tc := ⟨.hbm, 44, rfl⟩
abbrev main_c : Ref sig .tc := ⟨.hbm, 45, rfl⟩
abbrev main_v4 : Ref sig .tc := ⟨.hbm, 46, rfl⟩
abbrev main_c_1 : Ref sig .tc := ⟨.hbm, 47, rfl⟩
abbrev main_v5 : Ref sig .tc := ⟨.hbm, 48, rfl⟩
abbrev main_v6 : Ref sig .tc := ⟨.hbm, 49, rfl⟩
abbrev main_c_2 : Ref sig .tc := ⟨.hbm, 50, rfl⟩
abbrev main_c_3 : Ref sig .tc := ⟨.hbm, 51, rfl⟩
abbrev main_v7 : Ref sig .tc := ⟨.hbm, 52, rfl⟩
abbrev main_c_4 : Ref sig .tc := ⟨.hbm, 53, rfl⟩
abbrev main_c_5 : Ref sig .tc := ⟨.hbm, 54, rfl⟩
abbrev main_v8 : Ref sig .tc := ⟨.hbm, 55, rfl⟩
abbrev main_c_6 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_c_7 : Ref sig .tc := ⟨.hbm, 60, rfl⟩
abbrev main_v12 : Ref sig .tc := ⟨.hbm, 61, rfl⟩
abbrev main_c_8 : Ref sig .tc := ⟨.hbm, 62, rfl⟩
abbrev main_v13 : Ref sig .tc := ⟨.hbm, 63, rfl⟩
abbrev main_v14 : Ref sig .tc := ⟨.hbm, 64, rfl⟩
abbrev main_c_9 : Ref sig .tc := ⟨.hbm, 65, rfl⟩
abbrev main_c_10 : Ref sig .tc := ⟨.hbm, 66, rfl⟩
abbrev main_v15 : Ref sig .tc := ⟨.hbm, 67, rfl⟩
abbrev main_c_11 : Ref sig .tc := ⟨.hbm, 68, rfl⟩
abbrev main_c_12 : Ref sig .tc := ⟨.hbm, 69, rfl⟩
abbrev main_v16 : Ref sig .tc := ⟨.hbm, 70, rfl⟩
abbrev main_c_13 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_c_14 : Ref sig .tc := ⟨.hbm, 76, rfl⟩
abbrev main_v21 : Ref sig .tc := ⟨.hbm, 77, rfl⟩
abbrev main_c_15 : Ref sig .tc := ⟨.hbm, 78, rfl⟩
abbrev main_v22 : Ref sig .tc := ⟨.hbm, 79, rfl⟩
abbrev main_v23 : Ref sig .tc := ⟨.hbm, 80, rfl⟩
abbrev main_c_16 : Ref sig .tc := ⟨.hbm, 81, rfl⟩
abbrev main_c_17 : Ref sig .tc := ⟨.hbm, 82, rfl⟩
abbrev main_v24 : Ref sig .tc := ⟨.hbm, 83, rfl⟩
abbrev main_c_18 : Ref sig .tc := ⟨.hbm, 84, rfl⟩
abbrev main_c_19 : Ref sig .tc := ⟨.hbm, 85, rfl⟩
abbrev main_v25 : Ref sig .tc := ⟨.hbm, 86, rfl⟩
abbrev main_c_20 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩

abbrev nD : Nat := 1
abbrev τ : Topo := Topo.v7x

variable {F : FTy → Type} [FloatOps F]
-- ==== Proof.InRange.lean ====
module

public import proofs.«01_k».proof.Pre_in_range
public import Idealize.ShloMosaic.Lib.ReduceAll

/-! What the precondition says of the four index arguments: every token word, both node words and the language word are
within their tables. -/

@[expose] public section

noncomputable section

namespace Cert.InRange

open Idealize.ShloMosaic Cert.Pre_in_range Cert.Pre_in_range.Facts

/-- Two signed comparisons, against zero and against a bound, that both hold put an unsigned word below the bound. -/
theorem toNat_lt_of_cmp (w : BitVec 32) (n : ℕ) (hn : n < 2147483648)
    (e : IntOp.andi (IntOp.cmpi .sge w 0#32) (IntOp.cmpi .slt w (BitVec.ofNat 32 n)) = 1#1) : w.toNat < n := by
  obtain ⟨h1, h2⟩ := IntOp.andi_eq_one.1 e
  have h1 := IntOp.cmpi_sge.1 h1
  have h2 := IntOp.cmpi_slt.1 h2
  have hw := w.isLt
  simp only [BitVec.toInt, BitVec.toNat_ofNat] at h1 h2
  have hm : n % 2 ^ 32 = n := Nat.mod_eq_of_lt (by omega)
  rw [hm] at h2
  split at h1 <;> split at h2 <;> simp at h1 h2 <;> omega

variable [Facts] {F : FTy → Type} [FloatOps F]

instance : Subsingleton S_.Idx := ⟨fun _ _ => funext fun a => a.elim0⟩

/-- The precondition's four bounds. -/
theorem bounds (a0 : IVec S200 32) (a1 a2 a3 : IVec S_ 32) (a4 : FVec F S3 .f32) (a5 : FVec F S1000000x64 .f32) (a6 a7 : FVec F S2048x64 .f32)
    (a8 : FVec F S64x64 .f32) (a9 : FVec F S64x3 .f32) (a10 : FVec F S64 .f32) (a11 : FVec F S64x128 .f32) (a12 : FVec F S64 .f32)
    (a13 : FVec F S1x64 .f32) (a14 : FVec F S1 .f32) (a15 : FVec F S1000000x64 .f32) (a16 : FVec F S1000000 .f32)
    (h : fn a0 a1 a2 a3 a4 a5 a6 a7 a8 a9 a10 a11 a12 a13 a14 a15 a16 = fun _ => 1#1) :
    (∀ i, (a0 i).toNat < 1000000) ∧ (∀ j, (a1 j).toNat < 2048) ∧ (∀ j, (a2 j).toNat < 2048) ∧ (∀ j, (a3 j).toNat < 64) := by
  have key : ∀ j : S_.Idx, (∀ i, (a0 i).toNat < 1000000) ∧ (a1 j).toNat < 2048 ∧ (a2 j).toNat < 2048 ∧ (a3 j).toNat < 64 := by
    intro j
    have e := congrFun h j
    dsimp only [fn, fn_part1] at e
    obtain ⟨e, e3⟩ := IntOp.andi_eq_one.1 e
    obtain ⟨e, e2⟩ := IntOp.andi_eq_one.1 e
    obtain ⟨e, e1⟩ := IntOp.andi_eq_one.1 e
    exact ⟨fun i => toNat_lt_of_cmp _ 1000000 (by decide) (Host.reduce_andi_all _ _ _ _ j e i), toNat_lt_of_cmp _ 2048 (by decide) e1,
      toNat_lt_of_cmp _ 2048 (by decide) e2, toNat_lt_of_cmp _ 64 (by decide) e3⟩
  exact ⟨(key (fun a => a.elim0)).1, fun j => (key j).2.1, fun j => (key j).2.2.1, fun j => (key j).2.2.2⟩

end Cert.InRange

end
-- ==== Proof.IdealRows.lean ====
module

public import proofs.«01_k».proof.Proof.Gen.KernelIdeal.Launch
public import proofs.«01_k».proof.Proof.Gen.KernelIdeal.Loops
public import proofs.«01_k».proof.Proof.Gen.KernelIdeal.Points
public import Idealize.ShloMosaic.Lib.Pipeline.FrameBody
public import Idealize.ShloMosaic.Lib.Batch
public import Idealize.ShloMosaic.Lib.Ring
public import Idealize.ShloMosaic.Lib.Tactic
public import Idealize.ShloMosaic.Lib.WholeRead
public import Idealize.ShloMosaic.Lib.VecWindow

@[expose] public section

noncomputable section

namespace Cert.KernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (Pipeline.UD sig nD τ) ℕ

/-- The number of rows the first loop asks for. -/
abbrev NT : ℕ := k0_t1_loop.trips

theorem NT_eq : NT = 200 := by decide
theorem trips2 : k0_t2_loop.trips = NT := by decide

/-- Row `w` of the token table. -/
def srcRow (w : BitVec 32) (h : k0_chk1 w) : Memref sig .tc .hbm S1x64 .f32 :=
  (Memref.whole main_arg5).slice (Rect.unit (s := S1000000x64) (k0_off3 w) S1x64.size (k0_off3_inb w h)) (fun _ => rfl)

/-- Row `t` of the scratch buffer the rows are gathered in. -/
def dstRow (t : Fin NT) : Memref sig .tc .vmem S1x64 .f32 :=
  (Memref.whole cc0_scratch0).slice (Rect.unit (s := S200x64) (k0_off2 t) S1x64.size (k0_off2_inb t)) (fun _ => rfl)

/-- What one row's transfer credits the semaphore with. -/
abbrev NN : ℕ := cc0_scratch0.dmaCredit S1x64 .f32

/-- A returned value is handed to the rest of the program. -/
theorem ret_bind {E : Type → Type} {α β : Type} (a : α) (k : α → Prog E β) : (Prog.ret a).bind k = k a := rfl

theorem NN_pos : 0 < NN := by decide

section Fixed

variable (c : Dev nD) (x0 : Vec F S200 .i32) (hx : ∀ i, (x0 i).toNat < 1000000)
variable (T : S1000000x64.Idx → Elt F .f32)

/-- The one index of a vector of one element. -/
def zero1 : S1.Idx := fun a => ⟨0, by fin_cases a; decide⟩

/-- Where the word of trip `k` lies in the list of words. -/
def wordIx (k : Fin NT) : S200.Idx :=
  (Rect.unit (s := S200) (k0_off1 k) S1.size (k0_off1_inb k)).emb zero1

/-- The word trip `k` reads. -/
def word (k : Fin NT) : BitVec 32 := x0 (wordIx k)

theorem chk_of_lt (w : BitVec 32) (h : w.toNat < 1000000) : k0_chk1 w := by
  intro a; fin_cases a
  · show w.toNat + 1 ≤ 1000000; omega
  · show 0 + 64 ≤ 64; omega

include hx in
theorem word_chk (k : Fin NT) : k0_chk1 (word x0 k) := chk_of_lt _ (hx _)

/-- The rows the list of words names, one under another. -/
def gathered : Vec F S200x64 .f32 := fun y =>
  T (fun a => match a with
    | ⟨0, _⟩ => ⟨(x0 (fun a => match a with | ⟨0, _⟩ => ⟨(y 0).val, (y 0).isLt⟩)).toNat, hx _⟩
    | ⟨1, _⟩ => ⟨(y 1).val, (y 1).isLt⟩)

theorem one_val (n : Fin 1) : n.val = 0 := by omega

/-- Where the row's elements lie in the table, -/
def srcAt (w : BitVec 32) (h : k0_chk1 w) (z : S1x64.Idx) : S1000000x64.Idx := (srcRow w h).view.emb z
/-- and in the scratch buffer. -/
def dstAt (k : Fin NT) (z : S1x64.Idx) : S200x64.Idx := (dstRow k).view.emb z
theorem srcRow_emb_row (w : BitVec 32) (h : k0_chk1 w) (z : S1x64.Idx) : (srcAt w h z 0).val = w.toNat := by
  show w.toNat + 1 * (z 0).val = w.toNat
  have := one_val (z 0); omega
theorem srcRow_emb_col (w : BitVec 32) (h : k0_chk1 w) (z : S1x64.Idx) : (srcAt w h z 1).val = (z 1).val := by
  show 0 + 1 * (z 1).val = (z 1).val
  omega
theorem dstRow_emb_row (k : Fin NT) (z : S1x64.Idx) : (dstAt k z 0).val = k.val := by
  show k0_off2 k 0 + 1 * (z 0).val = k.val
  rw [k0_off2_eq]
  show k.val + 1 * (z 0).val = k.val
  have := one_val (z 0); omega
theorem dstRow_emb_col (k : Fin NT) (z : S1x64.Idx) : (dstAt k z 1).val = (z 1).val := by
  show k0_off2 k 1 + 1 * (z 1).val = (z 1).val
  rw [k0_off2_eq]
  show 0 + 1 * (z 1).val = (z 1).val
  omega
theorem wordIx_val (k : Fin NT) : ((wordIx k) 0).val = k.val := by
  show k0_off1 k 0 + 1 * 0 = k.val
  rw [k0_off1_eq]
  rfl

/-- A row that has landed is the row of the gathered array. -/
theorem landed_eq (k : Fin NT) (fd : S200x64.Idx → Elt F .f32) (i : S200x64.Idx) (hi : i ∈ (dstRow k).view.set) :
    (dstRow k).view.write (Elt F) fd (ReadAs.same.apply ((srcRow (word x0 k) (word_chk x0 hx k)).view.read (Elt F) T)) Finset.univ i
      = gathered x0 hx T i := by
  obtain ⟨z, -, rfl⟩ := Finset.mem_map.mp hi
  refine (View.write_emb_of_mem (v := (dstRow k).view) fd _ (Finset.mem_univ z)).trans ?_
  show T _ = T _
  congr 1
  funext a
  fin_cases a
  · apply Fin.ext
    show (srcAt (word x0 k) (word_chk x0 hx k) z 0).val = (x0 _).toNat
    rw [srcRow_emb_row]
    have e : (wordIx k) = (fun a => match a with | ⟨0, _⟩ => ⟨(dstAt k z 0).val, (dstAt k z 0).isLt⟩ : S200.Idx) := by
      funext a; fin_cases a
      exact Fin.ext ((wordIx_val k).trans (dstRow_emb_row k z).symm)
    unfold word; rw [e]; rfl
  · apply Fin.ext
    show (srcAt (word x0 k) (word_chk x0 hx k) z 1).val = (dstAt k z 1).val
    rw [srcRow_emb_col, dstRow_emb_col]

/-- Row `word k` of the table, held at the share of token `k`, -/
def tokRow (k : Fin NT) : sProp 𝕄 :=
  (Memref.whole main_arg5 : Memref sig .tc .hbm S1000000x64 .f32).view.loc (c : Thread nD τ)
    ↦[(srcRow (word x0 k) (word_chk x0 hx k)).view.set]{Transfers.shareTokN fullShare k.val} T
/-- and the rest of the table at that share. -/
def tokOff (k : Fin NT) : sProp 𝕄 :=
  (Memref.whole main_arg5 : Memref sig .tc .hbm S1000000x64 .f32).view.loc (c : Thread nD τ)
    ↦[Finset.univ \ (srcRow (word x0 k) (word_chk x0 hx k)).view.set]{Transfers.shareTokN fullShare k.val} T
/-- Row `k` of the scratch buffer at contents `f`. -/
def slot (f : S200x64.Idx → Elt F .f32) (k : Fin NT) : sProp 𝕄 :=
  (Memref.whole cc0_scratch0 : Memref sig .tc .vmem S200x64 .f32).view.loc (c : Thread nD τ) ↦[(dstRow k).view.set]{fullShare} f

/-- What transfer `k` hands back: its row landed, its share of the table's row. -/
def deliv (k : Fin NT) : sProp 𝕄 := iprop(slot c (gathered x0 hx T) k ∗ tokRow c x0 hx T k)

theorem pts_storable {ℓ : Loc nD τ sig} {S : Finset (Idx ℓ)} {q : PosShare TreeShare} {f : Buf (Elt F) ℓ} :
    BI.Storable (upEmb : UEmb _ 𝕄) (ℓ ↦[S]{q} f : sProp 𝕄) := inferInstance
instance slot_storable (f : S200x64.Idx → Elt F .f32) (k : Fin NT) : BI.Storable (upEmb : UEmb _ 𝕄) (slot c f k) := by
  unfold slot; exact pts_storable
instance tokRow_storable (k : Fin NT) : BI.Storable (upEmb : UEmb _ 𝕄) (tokRow c x0 hx T k) := by
  unfold tokRow; exact pts_storable
instance deliv_storable (k : Fin NT) : BI.Storable (upEmb : UEmb _ 𝕄) (deliv c x0 hx T k) := by
  unfold deliv; infer_instance

/-- The rows in flight: `j` asked for, `u` units of credit consumed. -/
abbrev batch (j u : ℕ) : sProp 𝕄 :=
  Transfers.Batch (countersEmb (U := Pipeline.UD sig nD τ)) (c : Thread nD τ) (.dma 8) () NN (deliv c x0 hx T) j u

variable (arg0 : Memref sig .tc .smem S200 .i32) (harg0 : arg0.IsWhole)
variable (fd : S200x64.Idx → Elt F .f32)

/-- Before trip `k` of the first loop. -/
def issueAt (k : ℕ) (_ : Unit) : sProp 𝕄 :=
  iprop(batch c x0 hx T k 0 ∗ bigSep (Ring.rangeSet NT k NT) (slot c fd) ∗ bigSep (Ring.rangeSet NT k NT) (tokRow c x0 hx T)
    ∗ arg0.view.loc (c : Thread nD τ) ↦{fullShare} harg0.unread x0)

theorem landed_deliv (k : Fin NT) :
    iprop(((dstRow k).view.loc (c : Thread nD τ) ↦[(dstRow k).view.set]{fullShare}
          ((dstRow k).view.write (Elt F) fd (ReadAs.same.apply ((srcRow (word x0 k) (word_chk x0 hx k)).view.read (Elt F) T)) Finset.univ))
        ∗ ((srcRow (word x0 k) (word_chk x0 hx k)).view.loc (c : Thread nD τ) ↦[(srcRow (word x0 k) (word_chk x0 hx k)).view.set]{Transfers.shareTokN fullShare k.val} T))
      ⊢ (deliv c x0 hx T k : sProp 𝕄) := by
  rw [pointsTo_congr (g := gathered x0 hx T) (landed_eq x0 hx T k fd)]
  exact .rfl

variable (arg1 : Memref sig .tc .smem S3 .i32) (harg1 : arg1.IsWhole) (arg2 : Memref sig .tc .smem S3 .f32) (harg2 : arg2.IsWhole) (arg4 : Memref sig .tc .vmem S2048x64 .f32) (harg4 : arg4.IsWhole) (arg5 : Memref sig .tc .vmem S2048x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole)

set_option maxHeartbeats 1000000 in
/-- One trip of the first loop: row `word k` of the table is asked for into row `k` of the scratch buffer. -/
theorem issue_step (k : Fin NT) (acc : Unit) :
    issueAt c x0 hx T arg0 harg0 fd k acc ⊢ wp frame (wpE (defs₀ (F := F)) Variants.none (c : Thread nD τ) none) Set.univ
      (k0_t1_body (F := F) arg0 harg0 arg1 harg1 arg2 harg2 (Memref.whole main_arg5) (Memref.isWhole_whole _) arg4 harg4 arg5 harg5 arg6 harg6 arg7 harg7 arg8 harg8 (Memref.whole cc0_scratch0) (Memref.isWhole_whole _) cc0_scratch1 k acc)
      (issueAt c x0 hx T arg0 harg0 fd (k.val + 1)) := by
  have hk := k.isLt
  unfold issueAt
  rw [Ring.bigSep_rangeSet_head (Φ := slot c fd) hk hk, Ring.bigSep_rangeSet_head (Φ := tokRow c x0 hx T) hk hk]
  iintro ⟨HB, ⟨HS, HSs⟩, ⟨HT, HTs⟩, H0⟩
  unfold k0_t1_body
  sl_exec
  have hw : issue_step.sl.r x0 arg0 harg0 k = word x0 k := Memref.IsWhole.readAt_unread harg0 x0 (Rect.unit (s := S200) (k0_off1 k) S1.size (k0_off1_inb k)).toLoadRect zero1
  generalize issue_step.sl.r x0 arg0 harg0 k = w at hw ⊢
  subst hw
  iapply (wp_assume _ _ _ _ (word_chk x0 hx k))
  iapply (Transfers.wp_dmaBatch (countersEmb (U := Pipeline.UD sig nD τ)) Variants.none (c : Thread nD τ) none
    (src := srcRow (word x0 k) (word_chk x0 hx k)) (dst := dstRow k) (fs := T) (fd := fd) (q := Transfers.shareTokN fullShare k.val) () NN rfl subset_rfl
    (D := deliv c x0 hx T) (j := k.val) (u := 0) hk (Nat.zero_le _) (landed_deliv c x0 hx T fd k)) $$ [HT HS HB]
  · isplitl [HT]; · unfold tokRow; iexact HT
    isplitl [HS]; · unfold slot; iexact HS
    iexact HB
  iintro HB
  simp only [ret_bind]
  sl_step
  isplitl [HB]; · iexact HB
  isplitl [HSs]; · iexact HSs
  isplitl [HTs]; · iexact HTs
  iexact H0

/-- Before trip `k` of the second loop: what is still in flight, or, after the last trip, everything back. -/
def drainAt (k : ℕ) (_ : Unit) : sProp 𝕄 :=
  iprop(⌜k ≤ NT⌝ ∗ (∃ W, owes (c : Thread nD τ) 0 W) ∗ (arg0.view.loc (c : Thread nD τ) ↦{fullShare} harg0.unread x0)
    ∗ (if k < NT then batch c x0 hx T NT (k * NN)
       else iprop(semVal ((c : Thread nD τ), SemLoc.dma 8) 0 ∗ bigSep Finset.univ (deliv c x0 hx T))))

set_option maxHeartbeats 1000000 in
/-- One trip of the second loop: one row's credit is waited for. -/
theorem drain_step (k : Fin k0_t2_loop.trips) (acc : Unit) :
    drainAt c x0 hx T arg0 harg0 k acc ⊢ wp frame (wpE (defs₀ (F := F)) Variants.none (c : Thread nD τ) none) Set.univ
      (k0_t2_body (F := F) arg0 harg0 arg1 harg1 arg2 harg2 (Memref.whole main_arg5) (Memref.isWhole_whole _) arg4 harg4 arg5 harg5 arg6 harg6 arg7 harg7 arg8 harg8 (Memref.whole cc0_scratch0) (Memref.isWhole_whole _) cc0_scratch1 k acc)
      (drainAt c x0 hx T arg0 harg0 (k.val + 1)) := by
  have hk : k.val < NT := trips2 ▸ k.isLt
  have hk2 : k.val < 200 := NT_eq ▸ hk
  unfold drainAt
  rw [if_pos hk]
  iintro ⟨-, ⟨%W, HO⟩, H0, HB⟩
  unfold k0_t2_body
  sl_exec
  have hw : drain_step.sl.r x0 arg0 harg0 k = word x0 ⟨k.val, hk⟩ := Memref.IsWhole.readAt_unread harg0 x0 (Rect.unit (s := S200) (k0_off4 k) S1.size (k0_off4_inb k)).toLoadRect zero1
  generalize drain_step.sl.r x0 arg0 harg0 k = w at hw ⊢
  subst hw
  iapply (wp_assume _ _ _ _ (show k0_chk2 _ from word_chk x0 hx ⟨k.val, hk⟩))
  rcases Nat.lt_or_ge (k.val + 1) NT with h1 | h1
  · rw [if_pos h1]
    iapply (Transfers.wp_waitBatch (countersEmb (U := Pipeline.UD sig nD τ)) Variants.none (c : Thread nD τ) none () (N := NN) rfl
      (D := deliv c x0 hx T) (u := k.val * NN) (by rw [← Nat.succ_mul, Nat.mul_comm NN]; exact Nat.mul_lt_mul_of_pos_right h1 NN_pos)) $$ [HB HO]
    · isplitl [HB]; · iexact HB
      iexact HO
    iintro ⟨HB, HO⟩
    simp only [ret_bind]
    sl_step
    isplitr; · ipureintro; omega
    isplitl [HO]; · iexists _; iexact HO
    isplitl [H0]; · iexact H0
    rw [Nat.succ_mul]
    iexact HB
  · rw [if_neg (Nat.not_lt.mpr h1)]
    iapply (Transfers.wp_waitBatchLast (countersEmb (U := Pipeline.UD sig nD τ)) Variants.none (c : Thread nD τ) none () (N := NN) rfl NN_pos
      (D := deliv c x0 hx T) (u := k.val * NN) (by rw [← Nat.succ_mul, Nat.mul_comm NN, show k.val.succ = NT from le_antisymm hk h1])) $$ [HB HO]
    · isplitl [HB]; · iexact HB
      iexact HO
    iintro ⟨HD, Hv, HO⟩
    simp only [ret_bind]
    sl_step
    isplitr; · ipureintro; omega
    isplitl [HO]; · iexists _; iexact HO
    isplitl [H0]; · iexact H0
    isplitl [Hv]; · iexact Hv
    iexact HD

/-! ## The table as shares of its rows, the scratch buffer as its rows -/

/-- Row `k`'s elements of the scratch buffer. -/
abbrev dset (k : Fin NT) : Finset S200x64.Idx := (Rect.unit (s := S200x64) (k0_off2 k) S1x64.size (k0_off2_inb k)).set

theorem dstRow_set (k : Fin NT) : (dstRow k).view.set = dset k := View.set_slice_whole _ _

theorem mem_dset (k : Fin NT) (y : S200x64.Idx) : y ∈ dset k ↔ (y 0).val = k.val := by
  rw [Rect.mem_set_unit]
  have h1 : (y 1).val < 64 := (y 1).isLt
  rw [k0_off2_eq]
  constructor
  · intro H; have a0 : k.val ≤ (y 0).val ∧ (y 0).val < k.val + 1 := H 0; omega
  · intro H a; fin_cases a
    · show k.val ≤ (y 0).val ∧ (y 0).val < k.val + 1; omega
    · show 0 ≤ (y 1).val ∧ (y 1).val < 0 + 64; omega

theorem dset_disjoint : ∀ b b' : Fin NT, b ≠ b' → Disjoint (dset b) (dset b') := fun b b' hne => by
  rw [Finset.disjoint_left]; intro y hy hy'; rw [mem_dset] at hy hy'; exact hne (Fin.ext (by omega))
theorem dset_cover : Finset.univ.biUnion dset = Finset.univ := by
  ext y; simp only [Finset.mem_biUnion, Finset.mem_univ, true_and, iff_true]
  exact ⟨⟨(y 0).val, NT_eq ▸ (y 0).isLt⟩, (mem_dset _ _).mpr rfl⟩

/-- The scratch buffer held whole is its rows held. -/
theorem slots_eq (f : S200x64.Idx → Elt F .f32) :
    ((Memref.whole cc0_scratch0 : Memref sig .tc .vmem S200x64 .f32).view.loc (c : Thread nD τ) ↦{fullShare} f : sProp 𝕄)
      = bigSep Finset.univ (slot c f) := by
  refine (Ring.pointsTo_blocks (ℓ := (Memref.whole cc0_scratch0 : Memref sig .tc .vmem S200x64 .f32).view.loc (c : Thread nD τ)) (q := fullShare) dset dset_disjoint dset_cover f).trans
    (BI.bigSep_congr fun b _ => ?_)
  unfold slot; rw [dstRow_set]

/-- What is left of the table's share after the tokens are taken. -/
def tokRest : sProp 𝕄 :=
  (Memref.whole main_arg5 : Memref sig .tc .hbm S1000000x64 .f32).view.loc (c : Thread nD τ) ↦{Transfers.shareDrop fullShare NT} T

/-- The table held whole is, for every word, the row it names under that word's share and the rest of the table
    under it, beside what is left of the share. -/
theorem table_eq :
    ((Memref.whole main_arg5 : Memref sig .tc .hbm S1000000x64 .f32).view.loc (c : Thread nD τ) ↦{fullShare} T : sProp 𝕄)
      ⊣⊢ iprop(tokRest c T ∗ bigSep Finset.univ (tokRow c x0 hx T) ∗ bigSep Finset.univ (tokOff c x0 hx T)) := by
  have e : (bigSep (Finset.range NT) (fun t => ((Memref.whole main_arg5 : Memref sig .tc .hbm S1000000x64 .f32).view.loc (c : Thread nD τ) ↦{Transfers.shareTokN fullShare t} T : sProp 𝕄)))
      = iprop(bigSep Finset.univ (tokRow c x0 hx T) ∗ bigSep Finset.univ (tokOff c x0 hx T)) := by
    have h1 := Ring.bigSep_rangeSet_eq_range (NB := NT) (lo := 0) (hi := NT)
      (Φ := fun t => ((Memref.whole main_arg5 : Memref sig .tc .hbm S1000000x64 .f32).view.loc (c : Thread nD τ) ↦{Transfers.shareTokN fullShare t.val} T : sProp 𝕄)) le_rfl
      (fun t => ((Memref.whole main_arg5 : Memref sig .tc .hbm S1000000x64 .f32).view.loc (c : Thread nD τ) ↦{Transfers.shareTokN fullShare t} T : sProp 𝕄))
      (fun k hk => by simp only [Nat.zero_add])
    rw [Nat.sub_zero, Ring.rangeSet_univ] at h1
    rw [← h1]
    refine Eq.trans (BI.bigSep_congr fun k _ => ?_) (BI.bigSep_sep _ _ _)
    exact Idealize.SL.BI.Entails.antisymm (pointsTo_split_subset (Finset.subset_univ _)).1 (pointsTo_split_subset (Finset.subset_univ _)).2
  have h : ((Memref.whole main_arg5 : Memref sig .tc .hbm S1000000x64 .f32).view.loc (c : Thread nD τ) ↦{fullShare} T : sProp 𝕄) ⊣⊢ _ :=
    Transfers.pointsTo_toks_range fullShare NT
  rw [e] at h
  exact h

/-- Every delivery back: the scratch buffer holds the gathered rows, the rows' shares are back. -/
theorem deliv_all : (bigSep Finset.univ (deliv c x0 hx T) : sProp 𝕄)
    = iprop(((Memref.whole cc0_scratch0 : Memref sig .tc .vmem S200x64 .f32).view.loc (c : Thread nD τ) ↦{fullShare} gathered x0 hx T)
        ∗ bigSep Finset.univ (tokRow c x0 hx T)) := by
  rw [slots_eq]
  exact BI.bigSep_sep _ _ _

/-- The three words that name the rows of the small tables. -/
def idx0 (x1 : Vec F S3 .i32) : BitVec 32 := x1 ((Rect.unit (s := S3) ![0] S1.size inb_S3_S1_0).emb zero1)
def idx1 (x1 : Vec F S3 .i32) : BitVec 32 := x1 ((Rect.unit (s := S3) ![1] S1.size inb_S3_S1_1).emb zero1)
def idx2 (x1 : Vec F S3 .i32) : BitVec 32 := x1 ((Rect.unit (s := S3) ![2] S1.size inb_S3_S1_2).emb zero1)

variable (x1 : Vec F S3 .i32) (x3 : Vec F S2048x64 .f32) (x4 : Vec F S2048x64 .f32) (x5 : Vec F S64x64 .f32)
variable (h3 : k0_chk3 (idx0 x1)) (h4 : k0_chk4 (idx1 x1)) (h5 : k0_chk5 (idx2 x1))

/-- The rows those words name. -/
def row3 : Vec F S1x64 .f32 := fun z => x3 ((Rect.unit (s := S2048x64) (k0_off7 (idx0 x1)) S1x64.size (k0_off7_inb _ h3)).emb z)
def row4 : Vec F S1x64 .f32 := fun z => x4 ((Rect.unit (s := S2048x64) (k0_off8 (idx1 x1)) S1x64.size (k0_off8_inb _ h4)).emb z)
def row5 : Vec F S1x64 .f32 := fun z => x5 ((Rect.unit (s := S64x64) (k0_off9 (idx2 x1)) S1x64.size (k0_off9_inb _ h5)).emb z)

/-- What the body leaves in its two outputs: the scaled column sums of the gathered rows, -/
def meanRow : Vec F S1x64 .f32 := k0_pay1 (gathered x0 hx T)
/-- and the sum of the three rows. -/
def threeRows : Vec F S1x64 .f32 := k0_pay2 (row3 x1 x3 h3) (row4 x1 x4 h4) (row5 x1 x5 h5)

theorem readAt_full {off : Fin 2 → ℕ} (ho : off = ![0, 0]) (inb : ∀ a, off a + S200x64.size a ≤ S200x64.size a) (f : Vec F S200x64 .f32) :
    View.readAt (Elt F) (View.whole cc0_scratch0) (Rect.unit (s := S200x64) off S200x64.size inb).toLoadRect f = f := by
  subst ho
  funext y
  show f _ = f y
  congr 1
  funext a; fin_cases a
  · exact Fin.ext (show 0 + 1 * (y 0).val = (y 0).val by omega)
  · exact Fin.ext (show 0 + 1 * (y 1).val = (y 1).val by omega)

theorem load3 (h : k0_chk3 (idx0 x1)) : View.readAt (Elt F) arg4.view (Rect.unit (s := S2048x64) (k0_off7 (idx0 x1)) S1x64.size (k0_off7_inb _ h)).toLoadRect (harg4.unread x3) = row3 x1 x3 h := by
  funext z; exact Memref.IsWhole.readAt_unread harg4 x3 _ z
theorem load4 (h : k0_chk4 (idx1 x1)) : View.readAt (Elt F) arg5.view (Rect.unit (s := S2048x64) (k0_off8 (idx1 x1)) S1x64.size (k0_off8_inb _ h)).toLoadRect (harg5.unread x4) = row4 x1 x4 h := by
  funext z; exact Memref.IsWhole.readAt_unread harg5 x4 _ z
theorem load5 (h : k0_chk5 (idx2 x1)) : View.readAt (Elt F) arg6.view (Rect.unit (s := S64x64) (k0_off9 (idx2 x1)) S1x64.size (k0_off9_inb _ h)).toLoadRect (harg6.unread x5) = row5 x1 x5 h := by
  funext z; exact Memref.IsWhole.readAt_unread harg6 x5 _ z

/-- What the first region's body needs and leaves: the inputs and the table as they were, the two outputs written. -/
def bodyOwn (d7 d8 : sProp 𝕄) (fd : Vec F S200x64 .f32) : sProp 𝕄 :=
  iprop((arg0.view.loc (c : Thread nD τ) ↦{fullShare} harg0.unread x0) ∗ (arg1.view.loc (c : Thread nD τ) ↦{fullShare} harg1.unread x1)
        ∗ (arg4.view.loc (c : Thread nD τ) ↦{fullShare} harg4.unread x3) ∗ (arg5.view.loc (c : Thread nD τ) ↦{fullShare} harg5.unread x4)
        ∗ (arg6.view.loc (c : Thread nD τ) ↦{fullShare} harg6.unread x5) ∗ d7 ∗ d8
        ∗ ((Memref.whole cc0_scratch0 : Memref sig .tc .vmem S200x64 .f32).view.loc (c : Thread nD τ) ↦{fullShare} fd)
        ∗ semVal ((c : Thread nD τ), SemLoc.dma 8) 0
        ∗ ((Memref.whole main_arg5 : Memref sig .tc .hbm S1000000x64 .f32).view.loc (c : Thread nD τ) ↦{fullShare} T) ∗ (∃ W, owes (c : Thread nD τ) 0 W))

set_option maxHeartbeats 4000000 in
/-- The first region's body, run once. -/
theorem body_run (K : PUnit → sProp 𝕄) :
    iprop(bodyOwn c x0 T arg0 harg0 arg1 harg1 arg4 harg4 arg5 harg5 arg6 harg6 x1 x3 x4 x5
          iprop(∃ f, arg7.view.loc (c : Thread nD τ) ↦[arg7.view.set]{fullShare} f) iprop(∃ f, arg8.view.loc (c : Thread nD τ) ↦[arg8.view.set]{fullShare} f) fd
        ∗ (bodyOwn c x0 T arg0 harg0 arg1 harg1 arg4 harg4 arg5 harg5 arg6 harg6 x1 x3 x4 x5
          (owns (c : Thread nD τ) arg7 fullShare (meanRow x0 hx T)) (owns (c : Thread nD τ) arg8 fullShare (threeRows x1 x3 x4 x5 h3 h4 h5)) (gathered x0 hx T) -∗ K ⟨⟩))
      ⊢ wp frame (wpE (defs₀ (F := F)) Variants.none (c : Thread nD τ) none) Set.univ
          (cc0__summaries_body arg0 harg0 arg1 harg1 arg2 harg2 (Memref.whole main_arg5) (Memref.isWhole_whole _) arg4 harg4 arg5 harg5 arg6 harg6 arg7 harg7 arg8 harg8 (Memref.whole cc0_scratch0) (Memref.isWhole_whole _) cc0_scratch1) K := by
  unfold bodyOwn
  iintro ⟨⟨H0, H1, H4, H5, H6, ⟨%f7, H7⟩, ⟨%f8, H8⟩, HS, Hq, HT, ⟨%W, HO⟩⟩, Hk⟩
  rw [cc0__summaries_body_eq_skeleton]
  sl_unfold [cc0__summaries_body_skel]
  ihave HT' := (table_eq c x0 hx T).1 $$ HT
  icases HT' with ⟨HTr, HTs, HTo⟩
  ihave HSs := (Entails.of_eq (slots_eq c fd)) $$ HS
  imod (Transfers.batch_alloc' (Lvl := ℕ) (countersEmb (U := Pipeline.UD sig nD τ)) (c : Thread nD τ) () NN (deliv c x0 hx T) (sm := .dma 8) (E := Set.univ)) $$ Hq with HB
  sl_for (issueAt c x0 hx T arg0 harg0 fd) $$ [HB HSs HTs H0]
  · intro k acc; exact issue_step c x0 hx T arg0 harg0 fd arg1 harg1 arg2 harg2 arg4 harg4 arg5 harg5 arg6 harg6 arg7 harg7 arg8 harg8 k acc
  · unfold issueAt
    rw [Ring.rangeSet_univ]
    isplitl [HB]; · iexact HB
    isplitl [HSs]; · iexact HSs
    isplitl [HTs]; · iexact HTs
    iexact H0
  iintro %acc HL
  unfold issueAt
  icases HL with ⟨HB, -, -, H0⟩
  sl_for (drainAt c x0 hx T arg0 harg0) $$ [HB HO H0]
  · intro k acc; exact drain_step c x0 hx T arg0 harg0 arg1 harg1 arg2 harg2 arg4 harg4 arg5 harg5 arg6 harg6 arg7 harg7 arg8 harg8 k acc
  · unfold drainAt
    rw [if_pos (by decide)]
    isplitr; · ipureintro; omega
    isplitl [HO]; · iexists _; iexact HO
    isplitl [H0]; · iexact H0
    rw [Nat.zero_mul]
    iexact HB
  iintro %acc2 HL
  ihave HL' := (show drainAt c x0 hx T arg0 harg0 k0_t2_loop.trips acc2 ⊢ iprop((∃ W, owes (c : Thread nD τ) 0 W) ∗ (arg0.view.loc (c : Thread nD τ) ↦{fullShare} harg0.unread x0)
      ∗ semVal ((c : Thread nD τ), SemLoc.dma 8) 0 ∗ bigSep Finset.univ (deliv c x0 hx T)) from by
      unfold drainAt; rw [if_neg (by decide)]; iintro ⟨-, HO, H0, Hc, Hall⟩
      isplitl [HO]; · iexact HO
      isplitl [H0]; · iexact H0
      isplitl [Hc]; · iexact Hc
      iexact Hall) $$ HL
  icases HL' with ⟨⟨%W', HO⟩, H0, Hq, Hall⟩
  ihave Hd := (Entails.of_eq (deliv_all c x0 hx T)) $$ Hall
  icases Hd with ⟨HS, HTs⟩
  ihave HT := (table_eq c x0 hx T).2 $$ [HTr HTs HTo]
  · isplitl [HTr]; · iexact HTr
    isplitl [HTs]; · iexact HTs
    iexact HTo
  sl_exec
  have hw : body_run.sl.r arg1 harg1 x1 = idx0 x1 := Memref.IsWhole.readAt_unread harg1 x1 (Rect.unit (s := S3) ![0] S1.size inb_S3_S1_0).toLoadRect zero1
  generalize body_run.sl.r arg1 harg1 x1 = w at hw ⊢
  subst hw
  iapply (wp_assume _ _ _ _ h3)
  simp only [ret_bind]
  sl_exec
  have hw : body_run.sl.r_1 arg1 harg1 x1 = idx1 x1 := Memref.IsWhole.readAt_unread harg1 x1 (Rect.unit (s := S3) ![1] S1.size inb_S3_S1_1).toLoadRect zero1
  generalize body_run.sl.r_1 arg1 harg1 x1 = w at hw ⊢
  subst hw
  iapply (wp_assume _ _ _ _ h4)
  simp only [ret_bind]
  sl_exec
  have hw : body_run.sl.r_2 arg1 harg1 x1 = idx2 x1 := Memref.IsWhole.readAt_unread harg1 x1 (Rect.unit (s := S3) ![2] S1.size inb_S3_S1_2).toLoadRect zero1
  generalize body_run.sl.r_2 arg1 harg1 x1 = w at hw ⊢
  subst hw
  iapply (wp_assume _ _ _ _ h5)
  simp only [ret_bind]
  sl_exec
  sl_step
  iapply Hk
  isplitl [H0]; · iexact H0
  isplitl [H1]; · iexact H1
  isplitl [H4]; · iexact H4
  isplitl [H5]; · iexact H5
  isplitl [H6]; · iexact H6
  isplitl [H7]
  · unfold owns; iexists _; isplitr
    swap; · iexact H7
    ipureintro
    refine (View.read_writes_full _ _ _ _ _).trans ?_
    unfold meanRow
    exact congrArg k0_pay1 (readAt_full rfl _ _)
  isplitl [H8]
  · unfold owns; iexists _; isplitr
    swap; · iexact H8
    ipureintro
    refine (View.read_writes_full _ _ _ _ _).trans ?_
    unfold threeRows
    exact congr (congr (congrArg k0_pay2 (load3 arg4 harg4 x1 x3 h3)) (load4 arg5 harg5 x1 x4 h4)) (load5 arg6 harg6 x1 x5 h5)
  isplitl [HS]; · iexact HS
  isplitl [Hq]; · iexact Hq
  isplitl [HT]; · iexact HT
  iexists _; iexact HO

/-- A whole memref owned at `x` is its buffer held at the contents that read `x`. -/
theorem owned {sp : Space} {s : Shape} {e : EltTy} (m : Memref sig .tc sp s e) (h : m.IsWhole) (x : s.Idx → Elt F e) :
    (owns (c : Thread nD τ) m fullShare x : sProp 𝕄) ⊣⊢ (m.view.loc (c : Thread nD τ) ↦{fullShare} h.unread x) := by
  unfold owns
  rw [Memref.IsWhole.set_eq_univ h]
  constructor
  · iintro ⟨%f, %hf, H⟩
    obtain rfl := Memref.IsWhole.eq_unread h hf
    iexact H
  · iintro H
    iexists _; isplitr; · ipureintro; exact Memref.IsWhole.read_unread h x
    iexact H

/-- An owned memref's buffer is held at some contents. -/
theorem owned_any {sp : Space} {s : Shape} {e : EltTy} (m : Memref sig .tc sp s e) (x : s.Idx → Elt F e) :
    (owns (c : Thread nD τ) m fullShare x : sProp 𝕄) ⊢ iprop(∃ f, m.view.loc (c : Thread nD τ) ↦[m.view.set]{fullShare} f) := by
  unfold owns
  iintro ⟨%f, -, H⟩
  iexists _; iexact H

/-- The same resources with every memref owned at its contents. -/
def bodyOwns (d7 d8 d9 : sProp 𝕄) : sProp 𝕄 :=
  iprop(owns (c : Thread nD τ) arg0 fullShare x0 ∗ owns (c : Thread nD τ) arg1 fullShare x1 ∗ owns (c : Thread nD τ) arg4 fullShare x3
    ∗ owns (c : Thread nD τ) arg5 fullShare x4 ∗ owns (c : Thread nD τ) arg6 fullShare x5 ∗ d7 ∗ d8 ∗ d9
    ∗ semVal ((c : Thread nD τ), SemLoc.dma 8) 0
    ∗ ((Memref.whole main_arg5 : Memref sig .tc .hbm S1000000x64 .f32).view.loc (c : Thread nD τ) ↦{fullShare} T) ∗ (∃ W, owes (c : Thread nD τ) 0 W))

set_option maxHeartbeats 1000000 in
/-- The first region's body, run once, over owned memrefs. -/
theorem body_owns (K : PUnit → sProp 𝕄) :
    iprop(bodyOwns c x0 T arg0 arg1 arg4 arg5 arg6 x1 x3 x4 x5
          iprop(∃ d, owns (c : Thread nD τ) arg7 fullShare d) iprop(∃ d, owns (c : Thread nD τ) arg8 fullShare d)
          iprop(∃ d, owns (c : Thread nD τ) (Memref.whole cc0_scratch0) fullShare d)
        ∗ (bodyOwns c x0 T arg0 arg1 arg4 arg5 arg6 x1 x3 x4 x5
          (owns (c : Thread nD τ) arg7 fullShare (meanRow x0 hx T)) (owns (c : Thread nD τ) arg8 fullShare (threeRows x1 x3 x4 x5 h3 h4 h5))
          iprop(∃ d, owns (c : Thread nD τ) (Memref.whole cc0_scratch0) fullShare d) -∗ K ⟨⟩))
      ⊢ wp frame (wpE (defs₀ (F := F)) Variants.none (c : Thread nD τ) none) Set.univ
          (cc0__summaries_body arg0 harg0 arg1 harg1 arg2 harg2 (Memref.whole main_arg5) (Memref.isWhole_whole _) arg4 harg4 arg5 harg5 arg6 harg6 arg7 harg7 arg8 harg8 (Memref.whole cc0_scratch0) (Memref.isWhole_whole _) cc0_scratch1) K := by
  unfold bodyOwns
  iintro ⟨⟨H0, H1, H4, H5, H6, ⟨%d7, H7⟩, ⟨%d8, H8⟩, ⟨%d9, HS⟩, Hq, HT, HO⟩, Hk⟩
  ihave H0 := (owned c arg0 harg0 x0).1 $$ H0
  ihave H1 := (owned c arg1 harg1 x1).1 $$ H1
  ihave H4 := (owned c arg4 harg4 x3).1 $$ H4
  ihave H5 := (owned c arg5 harg5 x4).1 $$ H5
  ihave H6 := (owned c arg6 harg6 x5).1 $$ H6
  ihave HS := (Entails.of_eq (owns_whole (c : Thread nD τ) cc0_scratch0 fullShare d9)) $$ HS
  ihave H7 := owned_any c arg7 d7 $$ H7
  ihave H8 := owned_any c arg8 d8 $$ H8
  iapply (body_run c x0 hx T arg0 harg0 d9 arg1 harg1 arg2 harg2 arg4 harg4 arg5 harg5 arg6 harg6 arg7 harg7 arg8 harg8 x1 x3 x4 x5 h3 h4 h5 K)
  unfold bodyOwn
  isplitr [Hk]
  · isplitl [H0]; · iexact H0
    isplitl [H1]; · iexact H1
    isplitl [H4]; · iexact H4
    isplitl [H5]; · iexact H5
    isplitl [H6]; · iexact H6
    isplitl [H7]; · iexact H7
    isplitl [H8]; · iexact H8
    isplitl [HS]; · iexact HS
    isplitl [Hq]; · iexact Hq
    isplitl [HT]; · iexact HT
    iexact HO
  iintro ⟨H0, H1, H4, H5, H6, H7, H8, HS, Hq, HT, HO⟩
  iapply Hk
  isplitl [H0]; · iapply (owned c arg0 harg0 x0).2; iexact H0
  isplitl [H1]; · iapply (owned c arg1 harg1 x1).2; iexact H1
  isplitl [H4]; · iapply (owned c arg4 harg4 x3).2; iexact H4
  isplitl [H5]; · iapply (owned c arg5 harg5 x4).2; iexact H5
  isplitl [H6]; · iapply (owned c arg6 harg6 x5).2; iexact H6
  isplitl [H7]; · iexact H7
  isplitl [H8]; · iexact H8
  isplitl [HS]
  · iexists _
    iapply (Entails.of_eq (owns_whole (c : Thread nD τ) cc0_scratch0 fullShare (gathered x0 hx T)).symm)
    iexact HS
  isplitl [Hq]; · iexact Hq
  isplitl [HT]; · iexact HT
  iexact HO

end Fixed

end Cert.KernelIdeal.Rows
-- ==== Proof.IdealRegions.lean ====
module

public import proofs.«01_k».proof.Proof.IdealRows
public import proofs.«01_k».proof.Proof.Gen.KernelIdeal.Skeleton
public import Idealize.ShloMosaic.Lib.Pipeline.RegionsLoop
public import Idealize.ShloMosaic.Lib.Pipeline.FrameSuffix
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Rows

variable {F : FTy → Type} [FloatOps F] [Named F]

local notation "𝕄" => MT nD τ sig Unit (Elt F) ℕ (Pipeline.UD sig nD τ) ℕ

section Regions
variable (V : (c : Dev nD) → (b : Ref sig .tc) → Buf (Elt F) ((c : Thread nD τ).loc b))

/-- Window `w`'s block of the first region at a point, read off its array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block whenever the body runs (one statement per window of the first region). -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (Pipeline.UD sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

abbrev VO0_6 : View sig .tc .vmem S1x64 .f32 := (Memref.whole cc0_stg6_0 : Memref sig .tc .vmem S1x64 .f32).view
abbrev VO0_7 : View sig .tc .vmem S1x64 .f32 := (Memref.whole cc0_stg7_0 : Memref sig .tc .vmem S1x64 .f32).view
/-- The staging buffers the first region's body is called with, and that each is a whole buffer. -/
abbrev ms0_0 (t : Fin cfg0.N) : Memref sig .tc .smem S200 .i32 := win0_0.stage (cfg0.slots t 0)
abbrev hs0_0 (t : Fin cfg0.N) : (ms0_0 t).IsWhole := hstage0_0 0
abbrev ms0_1 (t : Fin cfg0.N) : Memref sig .tc .smem S3 .i32 := win0_1.stage (cfg0.slots t 1)
abbrev hs0_1 (t : Fin cfg0.N) : (ms0_1 t).IsWhole := hstage0_1 0
abbrev ms0_2 (t : Fin cfg0.N) : Memref sig .tc .smem S3 .f32 := win0_2.stage (cfg0.slots t 2)
abbrev hs0_2 (t : Fin cfg0.N) : (ms0_2 t).IsWhole := hstage0_2 0
abbrev ms0_3 (t : Fin cfg0.N) : Memref sig .tc .vmem S2048x64 .f32 := win0_3.stage (cfg0.slots t 3)
abbrev hs0_3 (t : Fin cfg0.N) : (ms0_3 t).IsWhole := hstage0_3 0
abbrev ms0_4 (t : Fin cfg0.N) : Memref sig .tc .vmem S2048x64 .f32 := win0_4.stage (cfg0.slots t 4)
abbrev hs0_4 (t : Fin cfg0.N) : (ms0_4 t).IsWhole := hstage0_4 0
abbrev ms0_5 (t : Fin cfg0.N) : Memref sig .tc .vmem S64x64 .f32 := win0_5.stage (cfg0.slots t 5)
abbrev hs0_5 (t : Fin cfg0.N) : (ms0_5 t).IsWhole := hstage0_5 0
abbrev ms0_6 (t : Fin cfg0.N) : Memref sig .tc .vmem S1x64 .f32 := win0_6.stage (cfg0.slots t 6)
abbrev hs0_6 (t : Fin cfg0.N) : (ms0_6 t).IsWhole := hstage0_6 0
abbrev ms0_7 (t : Fin cfg0.N) : Memref sig .tc .vmem S1x64 .f32 := win0_7.stage (cfg0.slots t 7)
abbrev hs0_7 (t : Fin cfg0.N) : (ms0_7 t).IsWhole := hstage0_7 0
/-- The scratch buffer, and the token table, which the body reads by transfers of its own. -/
abbrev scM0_0 : Memref sig .tc .vmem S200x64 .f32 := Memref.whole cc0_scratch0
abbrev hbM0_0 : Memref sig .tc .hbm S1000000x64 .f32 := Memref.whole main_arg5
/-- A buffer's contents type, and the buffer held whole at such contents. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own transfer semaphore: none of the pipeline's. -/
abbrev osem0 : Fin 1 → SemLoc sig := fun j => (![SemLoc.dma 8] : Fin 1 → SemLoc sig) j
theorem ownSemFacts0 : Pipeline.OwnSemFacts spec0 osem0 := by decide
/-- The body's own semaphores at zero: the one. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 8) 0) := by
  rw [Pipeline.ownSems0_eq_of_list c osem0 [0] (by decide) (by decide)]; rfl
/-- The buffers the body moves data out of by itself: the token table. -/
def H0 : Finset (Ref sig .tc) := {main_arg5}
theorem H0_sub : H0 ⊆ Pipeline.restRefs sig spec0 := by decide
/-- They are held at the entry contents. -/
theorem hbmPts0_eq (c : Dev nD) :
    (bigSep H0 (fun b => ((c : Thread nD τ).loc b) ↦{fullShare} V c b) : sProp 𝕄) = iprop(hbPt0 c hbM0_0 (V c main_arg5)) := by
  rw [BI.bigSep_eq_bigSepL_of_eq [main_arg5] (by decide) (by decide)]; rfl

/-- What is handed to the body besides its windows, conjunct by conjunct. -/
theorem PhiD0_eq (c : Dev nD) :
    (Pipeline.ΦD osem0 spec0 H0 V c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f)) ∗ (∃ r, prngReg c r) ∗ iprop(semVal ((c : Thread nD τ), SemLoc.dma 8) 0) ∗ iprop(hbPt0 c hbM0_0 (V c main_arg5))) := by
  rw [Pipeline.ΦD_eq, scopedRest0_eq, ownSems00_eq, hbmPts0_eq]; simp only [scM0_0, owns_whole]; try rfl

/-- What the first region needs of the words it finds: the token words name rows of the token table, the three others rows
of theirs. -/
def WordsIn (c : Dev nD) (t : Fin cfg0.N) : Prop :=
  (∀ i, ((iblk0 V c 0 t : Vec F S200 .i32) i).toNat < 1000000) ∧ k0_chk3 (idx0 (iblk0 V c 1 t : Vec F S3 .i32))
    ∧ k0_chk4 (idx1 (iblk0 V c 1 t : Vec F S3 .i32)) ∧ k0_chk5 (idx2 (iblk0 V c 1 t : Vec F S3 .i32))

open scoped Classical in
/-- What the first region's body leaves in its two outputs where the words are in range (elsewhere anything). -/
def outsAt0 (c : Dev nD) (t : Fin cfg0.N) : Vec F S1x64 .f32 × Vec F S1x64 .f32 :=
  if h : WordsIn V c t then
    (meanRow (iblk0 V c 0 t) h.1 (V c main_arg5),
     threeRows (iblk0 V c 1 t) (iblk0 V c 3 t) (iblk0 V c 4 t) (iblk0 V c 5 t) h.2.1 h.2.2.1 h.2.2.2)
  else (iblk0 V c 6 t, iblk0 V c 7 t)

theorem outsAt0_eq (c : Dev nD) (t : Fin cfg0.N) (h : WordsIn V c t) : outsAt0 V c t =
    (meanRow (iblk0 V c 0 t) h.1 (V c main_arg5),
     threeRows (iblk0 V c 1 t) (iblk0 V c 3 t) (iblk0 V c 4 t) (iblk0 V c 5 t) h.2.1 h.2.2.1 h.2.2.2) := dif_pos h

/-- The first region's data: its arrays at the entry contents, the inputs left as found, the outputs at what the body computes. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t).1
    | ⟨7, _⟩ => (outsAt0 V c t).2
  Φ _ := Pipeline.ΦD osem0 spec0 H0 V c
  q _ := fullShare
  owed _ := 0

/-- The arrays are the entry contents. -/
theorem A_eq0 (c : Dev nD) (w : Fin cfg0.W) : (dat0 V c).A w = V c (Pipeline.arrRef spec0 w) := by
  dsimp only [dat0]

/-- What the body leaves in each window's buffer. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t).1 := by dsimp only [dat0]
theorem after0_7 (c : Dev nD) (t : Fin cfg0.N) : (dat0 V c).after 7 t = (outsAt0 V c t).2 := by dsimp only [dat0]

/-- What the body finds in each input window's buffer. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the first region's body is run from, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t))

set_option maxHeartbeats 800000 in
/-- The first region's body at its point: from the staged inputs to the two outputs, the scratch buffer, the semaphore and
the token table handed back. -/
theorem sound_body0 (c : Dev nD) (t : Fin cfg0.N) (h : WordsIn V c t) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    after0_0, after0_1, after0_2, after0_3, after0_4, after0_5, after0_6, after0_7]
  rw [show (dat0 V c).Φ t.castSucc = Pipeline.ΦD osem0 spec0 H0 V c from rfl, PhiD0_eq]
  unfold Dat.owesAt Pipeline.owesWithin
  rw [show (dat0 V c).owed t.castSucc = 0 from rfl, show (dat0 V c).owed t.succ = 0 from rfl, outsAt0_eq V c t h]
  iintro ⟨⟨⟨HS, HRs⟩, Hg, Hq, HT⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply (body_owns c (iblk0 V c 0 t) h.1 (V c main_arg5) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (iblk0 V c 1 t) (iblk0 V c 3 t) (iblk0 V c 4 t) (iblk0 V c 5 t)
    h.2.1 h.2.2.1 h.2.2.2 _)
  unfold bodyOwns
  isplitl [H0 H1 H3 H4 H5 H6 H7 HS Hq HT HW]
  · isplitl [H0]; · iexact H0
    isplitl [H1]; · iexact H1
    isplitl [H3]; · iexact H3
    isplitl [H4]; · iexact H4
    isplitl [H5]; · iexact H5
    isplitl [H6]; · iexists _; iexact H6
    isplitl [H7]; · iexists _; iexact H7
    isplitl [HS]; · iexact HS
    isplitl [Hq]; · iexact Hq
    isplitl [HT]; · iexact HT
    iexists _; iexact HW
  iintro ⟨H0, H1, H3, H4, H5, H6, H7, HS, Hq, HT, ⟨%W', HW'⟩⟩
  isplitl [HS HRs Hg Hq HT]
  · isplitl [HS HRs]
    · isplitl [HS]; · iexact HS
      iexact HRs
    isplitl [Hg]; · iexact Hg
    isplitl [Hq]; · iexact Hq
    iexact HT
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body the pipeline calls at a point is the kernel's body on that point's staging buffers. -/
theorem defs₀_row0 (t : Fin cfg0.N) :
    defs₀ (F := F) .tc cfg0.body (cfg0.bodyArgs t (cfg0.slots t)) = bodyAt0 t := by
  unfold defs₀; rw [Defs.onTc_tc]

/-- The first region's body meets its obligation at every point. -/
theorem body_obligation0 (c : Dev nD) (h : ∀ t, WordsIn V c t) : BodyObligation (dat0 (F := F) V c) (defs₀ (F := F)) Variants.none () Set.univ := fun t => by
  rw [bigSep_W0, bigSep_W0, defs₀_row0]
  exact triple_restated (sound_body0 V c t (h t)) rfl .rfl fun _ => .rfl

/-- Window `w`'s block of the second region at a point, read off its array at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block whenever the body runs (one statement per window of the second region). -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The rectangles of the second body's loads and stores: whole buffers. -/
abbrev r1_0 : Rect S1x64 := Rect.unit (s := S1x64) ![0, 0] S1x64.size inb_S1x64_S1x64_0_0
abbrev r1_1 : Rect S10000x64 := Rect.unit (s := S10000x64) ![0, 0] S10000x64.size inb_S10000x64_S10000x64_0_0
abbrev r1_2 : Rect S1x1x10000 := Rect.unit (s := S1x1x10000) ![0, 0, 0] S1x1x10000.size inb_S1x1x10000_S1x1x10000_0_0_0

/-- What the second body leaves in its first output window's buffer, from the input windows' blocks, -/
def out1_5 (x0 : Vec F S1x64 .f32) (x1 : Vec F S10000x64 .f32) (x2 : Vec F S10000x64 .f32) (x3 : Vec F S10000x64 .f32) (x4 : Vec F S10000x64 .f32) : Vec F S1x1x10000 .f32 :=
  View.canon [⟨r1_2, k1_pay2 (View.ld x0 r1_0) (View.ld x1 r1_1)⟩]

/-- The one store fills the buffer (so for each of the four outputs). -/
theorem cover1_5 (p0 : Vec F S1x1x10000 .f32) (y : S1x1x10000.Idx) :
    ∃ pc ∈ ([⟨r1_2, p0⟩] : List (View.Piece (Elt F) S1x1x10000 .f32)), y ∈ pc.1.set :=
  View.cover_of_tiled [⟨r1_2, p0⟩] S1x1x10000.size (by rfl) y

/-- in its second, -/
def out1_6 (x0 : Vec F S1x64 .f32) (x1 : Vec F S10000x64 .f32) (x2 : Vec F S10000x64 .f32) (x3 : Vec F S10000x64 .f32) (x4 : Vec F S10000x64 .f32) : Vec F S1x1x10000 .f32 :=
  View.canon [⟨r1_2, k1_pay3 (View.ld x0 r1_0) (View.ld x2 r1_1)⟩]

theorem cover1_6 (p0 : Vec F S1x1x10000 .f32) (y : S1x1x10000.Idx) :
    ∃ pc ∈ ([⟨r1_2, p0⟩] : List (View.Piece (Elt F) S1x1x10000 .f32)), y ∈ pc.1.set :=
  View.cover_of_tiled [⟨r1_2, p0⟩] S1x1x10000.size (by rfl) y

/-- in its third, -/
def out1_7 (x0 : Vec F S1x64 .f32) (x1 : Vec F S10000x64 .f32) (x2 : Vec F S10000x64 .f32) (x3 : Vec F S10000x64 .f32) (x4 : Vec F S10000x64 .f32) : Vec F S1x1x10000 .f32 :=
  View.canon [⟨r1_2, k1_pay4 (View.ld x0 r1_0) (View.ld x3 r1_1)⟩]

theorem cover1_7 (p0 : Vec F S1x1x10000 .f32) (y : S1x1x10000.Idx) :
    ∃ pc ∈ ([⟨r1_2, p0⟩] : List (View.Piece (Elt F) S1x1x10000 .f32)), y ∈ pc.1.set :=
  View.cover_of_tiled [⟨r1_2, p0⟩] S1x1x10000.size (by rfl) y

/-- in its fourth. -/
def out1_8 (x0 : Vec F S1x64 .f32) (x1 : Vec F S10000x64 .f32) (x2 : Vec F S10000x64 .f32) (x3 : Vec F S10000x64 .f32) (x4 : Vec F S10000x64 .f32) : Vec F S1x1x10000 .f32 :=
  View.canon [⟨r1_2, k1_pay1 (k1_pay5 (View.ld x0 r1_0) (View.ld x4 r1_1))⟩]

theorem cover1_8 (p0 : Vec F S1x1x10000 .f32) (y : S1x1x10000.Idx) :
    ∃ pc ∈ ([⟨r1_2, p0⟩] : List (View.Piece (Elt F) S1x1x10000 .f32)), y ∈ pc.1.set :=
  View.cover_of_tiled [⟨r1_2, p0⟩] S1x1x10000.size (by rfl) y

set_option maxHeartbeats 1000000 in
/-- The second body on whole staging buffers: the inputs stay, each output holds what is stated above. -/
theorem sound_kernel1 (c : Dev nD) (E : Set ℕ) (i : grid1.Coords) (arg1 : Memref sig .tc .vmem S1x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S10000x64 .f32) (harg5 : arg5.IsWhole) (arg6 : Memref sig .tc .vmem S1x1x10000 .f32) (harg6 : arg6.IsWhole) (arg7 : Memref sig .tc .vmem S1x1x10000 .f32) (harg7 : arg7.IsWhole) (arg8 : Memref sig .tc .vmem S1x1x10000 .f32) (harg8 : arg8.IsWhole) (arg9 : Memref sig .tc .vmem S1x1x10000 .f32) (harg9 : arg9.IsWhole)
    (x0 : Vec F S1x64 .f32) (x1 : Vec F S10000x64 .f32) (x2 : Vec F S10000x64 .f32) (x3 : Vec F S10000x64 .f32) (x4 : Vec F S10000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4) ∗ owns (c : Thread nD τ) arg7 fullShare (out1_6 x0 x1 x2 x3 x4) ∗ owns (c : Thread nD τ) arg8 fullShare (out1_7 x0 x1 x2 x3 x4) ∗ owns (c : Thread nD τ) arg9 fullShare (out1_8 x0 x1 x2 x3 x4)) -∗ K ⟨⟩))
      ⊢ wp frame (wpE (defs₀ (F := F)) Variants.none c none) E (cc1__matvec_body i arg1 harg1 arg2 harg2 arg3 harg3 arg4 harg4 arg5 harg5 arg6 harg6 arg7 harg7 arg8 harg8 arg9 harg9) K := by
  simp only [cc1__matvec_body_eq_skeleton]; unfold cc1__matvec_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  isplitl [H6]
  · iexists _; isplitr
    swap; · iexact H6
    ipureintro
    exact View.read_writes_eq_canon _ _ _ (cover1_6 _)
  isplitl [H7]
  · iexists _; isplitr
    swap; · iexact H7
    ipureintro
    exact View.read_writes_eq_canon _ _ _ (cover1_7 _)
  iexists _; isplitr
  swap; · iexact H8
  ipureintro
  exact View.read_writes_eq_canon _ _ _ (cover1_8 _)

/-- The second region's data: its arrays at the entry contents, the inputs left as found, the outputs at what the body computes. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
    | ⟨7, _⟩ => out1_7 (iblk1 V c 0 t) (iblk1 V c 1 t) (iblk1 V c 2 t) (iblk1 V c 3 t) (iblk1 V c 4 t)
    | ⟨8, _⟩ => out1_8 (iblk1 V c 0 t) (iblk1 V c 1 t) (iblk1 V c 2 t) (iblk1 V c 3 t) (iblk1 V c 4 t)
  Φ _ := Pipeline.ΦA spec1 c
  q w := Pipeline.shareOf spec1 w
  owed _ := 0

/-- The arrays are the entry contents. -/
theorem A_eq1 (c : Dev nD) (w : Fin cfg1.W) : (dat1 V c).A w = V c (Pipeline.arrRef spec1 w) := by
  dsimp only [dat1]

/-- What the body leaves in each window's buffer. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) := by dsimp only [dat1]

/-- What the body finds in each input window's buffer. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the second region's body is run from, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The second region's body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ (grid1.coords t) _ _ _ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body the pipeline calls at a point is the kernel's body on that point's staging buffers. -/
theorem defs₀_row1 (t : Fin cfg1.N) :
    defs₀ (F := F) .tc cfg1.body (cfg1.bodyArgs t (cfg1.slots t)) = bodyAt1 t := by
  unfold defs₀; rw [Defs.onTc_tc]

/-- The second region's body meets its obligation at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Run
-- ==== Proof.IdealRun.lean ====
module

public import proofs.«01_k».proof.Proof.IdealRegions

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Rows

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The program's arguments. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16]

/-- The first stretch of host operations allocates nothing, and writes only these. -/
theorem hostOps0_fresh : (hostOps0 : List (HloOp τ sig (Elt F))).Forall fun op => op.fresh = ∅ := by
  simp only [List.Forall]; repeat' constructor
abbrev hostOps0_W : List (Ref sig .tc) := [main_v0, main_v1, main_v2, main_v3]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

/-- So the second stretch, -/
theorem hostOps1_fresh : (hostOps1 : List (HloOp τ sig (Elt F))).Forall fun op => op.fresh = ∅ := by
  simp only [List.Forall]; repeat' constructor
abbrev hostOps1_W : List (Ref sig .tc) := [main_v5, main_v6, main_v7, main_v8, main_v9, main_v10, main_v11, main_v12, main_v13, main_v14, main_v15, main_v16, main_v17]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

/-- and the third. -/
theorem hostOps2_fresh : (hostOps2 : List (HloOp τ sig (Elt F))).Forall fun op => op.fresh = ∅ := by
  simp only [List.Forall]; repeat' constructor
abbrev hostOps2_W : List (Ref sig .tc) := [main_v19, main_v20, main_v21, main_v22, main_v23, main_v24, main_v25, main_v26, main_v27, main_v28, main_v29]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

/-- A core's buffers at launch, -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- at the first region's entry, -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- (by reference,) -/
abbrev V1 : (c : Dev nD) → (b : Ref sig .tc) → Buf (Elt F) ((c : Thread nD τ).loc b) := fun c b => W1 m ρ c b
/-- after the first region: its arrays at what it leaves, everything else as it was, -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A buffer the first region does not write keeps its contents across it. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
/-- The first region leaves its arrays and all the rest at `V2`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- at the second region's entry, -/
abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt F) ((c : Thread nD τ).loc b) := fun c b => W3 m ρ c b
/-- after the second region, -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact (dat1 (V3 m ρ) c).withArrays_arrAt launch₀1.sharedIn _ (A_eq1 (V3 m ρ) c) w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A buffer the second region does not write keeps its contents across it. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
/-- The second region leaves its arrays and all the rest at `V4`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- and at the end. -/
abbrev W5 : Dev nD → Valuation τ sig (Elt F) := fun c => StableHlo.after hostOps2 (W4 m ρ c)
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-- Every argument ends as launched. -/
theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)
theorem W5_main_arg5 (c : Dev nD) : W5 m ρ c (Proc.devRef .tc main_arg5) = m ((c : Thread nD τ).loc main_arg5) :=
  W5_args m ρ c main_arg5 (by decide)
theorem W5_main_arg6 (c : Dev nD) : W5 m ρ c (Proc.devRef .tc main_arg6) = m ((c : Thread nD τ).loc main_arg6) :=
  W5_args m ρ c main_arg6 (by decide)
theorem W5_main_arg7 (c : Dev nD) : W5 m ρ c (Proc.devRef .tc main_arg7) = m ((c : Thread nD τ).loc main_arg7) :=
  W5_args m ρ c main_arg7 (by decide)
theorem W5_main_arg8 (c : Dev nD) : W5 m ρ c (Proc.devRef .tc main_arg8) = m ((c : Thread nD τ).loc main_arg8) :=
  W5_args m ρ c main_arg8 (by decide)
theorem W5_main_arg9 (c : Dev nD) : W5 m ρ c (Proc.devRef .tc main_arg9) = m ((c : Thread nD τ).loc main_arg9) :=
  W5_args m ρ c main_arg9 (by decide)
theorem W5_main_arg10 (c : Dev nD) : W5 m ρ c (Proc.devRef .tc main_arg10) = m ((c : Thread nD τ).loc main_arg10) :=
  W5_args m ρ c main_arg10 (by decide)
theorem W5_main_arg11 (c : Dev nD) : W5 m ρ c (Proc.devRef .tc main_arg11) = m ((c : Thread nD τ).loc main_arg11) :=
  W5_args m ρ c main_arg11 (by decide)
theorem W5_main_arg12 (c : Dev nD) : W5 m ρ c (Proc.devRef .tc main_arg12) = m ((c : Thread nD τ).loc main_arg12) :=
  W5_args m ρ c main_arg12 (by decide)
theorem W5_main_arg13 (c : Dev nD) : W5 m ρ c (Proc.devRef .tc main_arg13) = m ((c : Thread nD τ).loc main_arg13) :=
  W5_args m ρ c main_arg13 (by decide)
theorem W5_main_arg14 (c : Dev nD) : W5 m ρ c (Proc.devRef .tc main_arg14) = m ((c : Thread nD τ).loc main_arg14) :=
  W5_args m ρ c main_arg14 (by decide)
theorem W5_main_arg15 (c : Dev nD) : W5 m ρ c (Proc.devRef .tc main_arg15) = m ((c : Thread nD τ).loc main_arg15) :=
  W5_args m ρ c main_arg15 (by decide)
theorem W5_main_arg16 (c : Dev nD) : W5 m ρ c (Proc.devRef .tc main_arg16) = m ((c : Thread nD τ).loc main_arg16) :=
  W5_args m ρ c main_arg16 (by decide)

/-- There are no tables to fetch ahead. -/
abbrev adm : (p : Fin 2) → (pcfgs (F := F) p).Adm := fun p => (cfgs p).toPCfg_adm
/-- Each region's data at its entry contents. -/
def pdats : (p : Fin 2) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything. -/
abbrev L : GSem nD τ sig → Finset Unit := fun _ => ∅
abbrev lv : GSem nD τ sig → Unit → ℕ := fun _ _ => 0
/-- What rides along beside the buffers. -/
abbrev R (c : Dev nD) : sProp 𝕄 := iprop((∃ r, prngReg c r) ∗ ∃ W, owes (c : Thread nD τ) (0 : CellTallies nD τ sig Unit) W)
/-- A stretch of host operations as a segment of the run. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A buffer that outlives the regions is among those the run holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The state the run ends in. -/
abbrev Tₙ (c : Dev nD) : sProp 𝕄 := iprop(StableHlo.held (c : Thread nD τ) (Pipeline.ucRefs τ sig) (W5 m ρ c) ∗ ∃ r, prngReg c r)
set_option backward.isDefEq.respectTransparency.types false in
/-- The first region as a segment: from the buffers at `W1` to the buffers at `W2`. -/
def reg0 (hW : ∀ c t, WordsIn (V1 m ρ) c t) : Pipeline.RegionSeg (pcfgs (F := F)) adm (pdats m ρ) () defs₀ 𝒱₀ L lv 0 where
  win := launch0.win.to₀
  block_pos := launch0.block_pos
  stage_whole := launch0.stage_whole
  K := Fin 1
  osem := osem0
  ho := ownSemFacts0
  hbody c := (body_obligation0 (V1 m ρ) c (hW c)).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop((∃ r, prngReg c r) ∗ Pipeline.ownSems0 (Ix := Unit) (Name := ℕ) (U := Pipeline.UD sig nD τ) (Lvl := ℕ) (Val := Elt F) (τ := τ) osem0 c ∗ (bigSep H0 fun b => (((c : Thread nD τ)).loc b) ↦{fullShare} V1 m ρ c b))
  Y c := iprop((∃ r, prngReg c r) ∗ (bigSep H0 fun b => (((c : Thread nD τ)).loc b) ↦{fullShare} V1 m ρ c b))
  Z c := bigSep (Pipeline.restRefs sig spec0 \ H0) fun b => (((c : Thread nD τ)).loc b) ↦{fullShare} V1 m ρ c b
  hentry c := by
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    have hH : (Pipeline.unscopedRest (Ix := Unit) (Name := ℕ) (U := Pipeline.UD sig nD τ) (Lvl := ℕ) spec0 c (V1 m ρ c) : sProp 𝕄)
        = iprop((bigSep H0 fun b => (((c : Thread nD τ)).loc b) ↦{fullShare} V1 m ρ c b) ∗ (bigSep (Pipeline.restRefs sig spec0 \ H0) fun b => (((c : Thread nD τ)).loc b) ↦{fullShare} V1 m ρ c b)) := by
      unfold Pipeline.unscopedRest; exact BI.bigSep_sdiff_split H0_sub
    iintro ⟨⟨Hub, Hp, HO⟩, Hos, -⟩
    ihave H := hsplit $$ Hub
    icases H with ⟨Ha, Hrest⟩
    ihave H' := (Entails.of_eq hH) $$ Hrest
    icases H' with ⟨HH, HR⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (pdats m ρ 0 c).Φ 0 = Pipeline.ΦD osem0 spec0 H0 (V1 m ρ) c from rfl, Pipeline.ΦD_eq]
    iintro ⟨⟨Hp, Ho, HH⟩, -, Hr⟩
    isplitl [Hr]; · iexact Hr
    isplitl [Hp]; · iexact Hp
    isplitl [Ho]; · iexact Ho
    iexact HH
  hout c := by
    rw [show (pdats m ρ 0 c).Φ (Fin.last _) = Pipeline.ΦD osem0 spec0 H0 (V1 m ρ) c from rfl, Pipeline.ΦD_eq]
    iintro ⟨Hr, Hp, Ho, HH⟩
    isplitl [Hp HH]
    · isplitl [Hp]; · iexact Hp
      iexact HH
    isplitl [Ho]; · iexact Ho
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    have hH : (Pipeline.unscopedRest (Ix := Unit) (Name := ℕ) (U := Pipeline.UD sig nD τ) (Lvl := ℕ) spec0 c (V1 m ρ c) : sProp 𝕄)
        = iprop((bigSep H0 fun b => (((c : Thread nD τ)).loc b) ↦{fullShare} V1 m ρ c b) ∗ (bigSep (Pipeline.restRefs sig spec0 \ H0) fun b => (((c : Thread nD τ)).loc b) ↦{fullShare} V1 m ρ c b)) := by
      unfold Pipeline.unscopedRest; exact BI.bigSep_sdiff_split H0_sub
    iintro ⟨Ha, HO, ⟨HY, HH⟩, HR⟩
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
/-- The second region as a segment: from the buffers at `W3` to the buffers at `W4`. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := Pipeline.UD sig nD τ) (Lvl := ℕ)
      launch₀1.win launch₀1.sharedIn launch₀1.arr_whole c (pdats m ρ) (fun _ _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's five segments. -/
abbrev segs (hW : ∀ c t, WordsIn (V1 m ρ) c t) : List (Pipeline.Seg (pcfgs (F := F)) adm (pdats m ρ) () defs₀ 𝒱₀ L lv) :=
  [ .host (hseg hostOps0 hostOps0_sub hostOps0_fresh (W0 m ρ)),
    .region (reg0 m ρ hW),
    .host (hseg hostOps1 hostOps1_sub hostOps1_fresh (W2 m ρ)),
    .region (reg1 m ρ),
    .host (hseg hostOps2 hostOps2_sub hostOps2_fresh (W4 m ρ)) ]
/-- The program is their run. -/
theorem main_run (hW : ∀ c t, WordsIn (V1 m ρ) c t) (c : Dev nD) : main (F := F) c = Pipeline.Seg.run (segs m ρ hW) := (main_chain c).trans (by chain_rfl)

/-- Every semaphore belongs to a region. -/
theorem no_unscoped : ∀ sm : SemLoc sig, sm.isScoped .tc = true := by decide
set_option backward.isDefEq.respectTransparency.types false in
/-- Every execution ends, with every lasting buffer at the last boundary's contents and every semaphore counter at zero. -/
theorem runs (hW : ∀ c t, WordsIn (V1 m ρ) c t) : θ_run defs (onTc (τ := τ) (main (F := F))) ⟨m, fun _ => 0, ρ⟩
    (fun r => (∀ c : Dev nD, ∀ b ∈ Pipeline.ucRefs τ sig, r.2.mem ((c : Thread nD τ).1, b) = W5 m ρ c b) ∧ r.2.sem = fun _ => 0) :=
  Pipeline.θ_run_regions_kit_sems (pcfgs (F := F)) adm (pdats m ρ) () cellOf_inj embL defs₀ 𝒱₀ L lv m ρ main (segs m ρ hW)
    (fun c Q => by rw [main_run m ρ hW c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

end Cert.KernelIdeal.Run
-- ==== Proof.IdealWords.lean ====
module

public import proofs.«01_k».proof.Proof.IdealRun
public import Idealize.ShloMosaic.Lib.Pipeline.ValueKit
public import Idealize.ShloMosaic.Lib.Claim
public import Idealize.ShloMosaic.Lib.Pointwise

/-! What the first region reads: its input blocks are whole arrays, and the three words of the index array are the three scalar
arguments. -/

@[expose] public section

set_option maxRecDepth 16384

noncomputable section

namespace Cert.KernelIdeal.Run

open Idealize.ShloMosaic Idealize.ShloMosaic.TcCoe Idealize.ShloMosaic.Tactic
open Cert.KernelIdeal.Gen Cert.KernelIdeal.Rows

variable {F : FTy → Type} [FloatOps F] [Named F]
variable (V : (c : Dev nD) → (b : Ref sig .tc) → Buf (Elt F) (((c : Thread nD τ)).loc b))

/-- The first region's blocks are at block index zero: -/
theorem index0_0 (t : Fin cfg0.N) (a) : win0_0.index t a = 0 := rfl
theorem index0_1 (t : Fin cfg0.N) (a) : win0_1.index t a = 0 := rfl
theorem index0_3 (t : Fin cfg0.N) (a) : win0_3.index t a = 0 := rfl
theorem index0_4 (t : Fin cfg0.N) (a) : win0_4.index t a = 0 := rfl
theorem index0_5 (t : Fin cfg0.N) (a) : win0_5.index t a = 0 := rfl

/-- they are whole arrays. -/
theorem iblk0_0 (c : Dev nD) (t : Fin cfg0.N) : (iblk0 V c 0 t : Vec F S200 .i32) = V c main_arg0 := by
  funext y; blk_ext [iblk0, index0_0]
theorem iblk0_1 (c : Dev nD) (t : Fin cfg0.N) : (iblk0 V c 1 t : Vec F S3 .i32) = V c main_v3 := by
  funext y; blk_ext [iblk0, index0_1]
theorem iblk0_3 (c : Dev nD) (t : Fin cfg0.N) : (iblk0 V c 3 t : Vec F S2048x64 .f32) = V c main_arg6 := by
  funext y; blk_ext [iblk0, index0_3]
theorem iblk0_4 (c : Dev nD) (t : Fin cfg0.N) : (iblk0 V c 4 t : Vec F S2048x64 .f32) = V c main_arg7 := by
  funext y; blk_ext [iblk0, index0_4]
theorem iblk0_5 (c : Dev nD) (t : Fin cfg0.N) : (iblk0 V c 5 t : Vec F S64x64 .f32) = V c main_arg8 := by
  funext y; blk_ext [iblk0, index0_5]

variable (m : (ℓ : Loc nD τ sig) → Buf (Elt F) ℓ) (ρ : Dev nD → PrngReg)

/-- What the host operations before the first region leave in the index array: the three scalars one after another. -/
theorem V1_main_v3 (c : Dev nD) : (V1 m ρ c main_v3 : Vec F S3 .i32) = concatenate S3 0
    [⟨S1, broadcastInDim S1 ![] bcast_S_S1 (m ((c : Thread nD τ).loc main_arg1) : Vec F S_ .i32)⟩,
     ⟨S1, broadcastInDim S1 ![] bcast_S_S1 (m ((c : Thread nD τ).loc main_arg2) : Vec F S_ .i32)⟩,
     ⟨S1, broadcastInDim S1 ![] bcast_S_S1 (m ((c : Thread nD τ).loc main_arg3) : Vec F S_ .i32)⟩] concatenates_S1_S1_S1_S3_d0 := by
  rfl

/-- So its three words are those scalars. -/
theorem idx0_eq (c : Dev nD) : idx0 (V1 m ρ c main_v3 : Vec F S3 .i32) = (m ((c : Thread nD τ).loc main_arg1) : Vec F S_ .i32) ix0 := by
  rw [V1_main_v3]; unfold idx0
  rw [show (Rect.unit (s := S3) ![0] S1.size inb_S3_S1_0).emb zero1 = ix1 (0 : Fin 3) from by funext a; fin_cases a; rfl]
  pointwise
theorem idx1_eq (c : Dev nD) : idx1 (V1 m ρ c main_v3 : Vec F S3 .i32) = (m ((c : Thread nD τ).loc main_arg2) : Vec F S_ .i32) ix0 := by
  rw [V1_main_v3]; unfold idx1
  rw [show (Rect.unit (s := S3) ![1] S1.size inb_S3_S1_1).emb zero1 = ix1 (1 : Fin 3) from by funext a; fin_cases a; rfl]
  pointwise
theorem idx2_eq (c : Dev nD) : idx2 (V1 m ρ c main_v3 : Vec F S3 .i32) = (m ((c : Thread nD τ).loc main_arg3) : Vec F S_ .i32) ix0 := by
  rw [V1_main_v3]; unfold idx2
  rw [show (Rect.unit (s := S3) ![2] S1.size inb_S3_S1_2).emb zero1 = ix1 (2 : Fin 3) from by funext a; fin_cases a; rfl]
  pointwise

/-- A row offset within its table. -/
theorem chk3_of (w : BitVec 32) (h : w.toNat < 2048) : k0_chk3 w := by
  intro a; fin_cases a
  · show w.toNat + 1 ≤ 2048; omega
  · show 0 + 64 ≤ 64; omega
theorem chk4_of (w : BitVec 32) (h : w.toNat < 2048) : k0_chk4 w := by
  intro a; fin_cases a
  · show w.toNat + 1 ≤ 2048; omega
  · show 0 + 64 ≤ 64; omega
theorem chk5_of (w : BitVec 32) (h : w.toNat < 64) : k0_chk5 w := by
  intro a; fin_cases a
  · show w.toNat + 1 ≤ 64; omega
  · show 0 + 64 ≤ 64; omega

/-- Indices in range: every token word, both node words and the language word of a memory within their tables. -/
def InRange : Prop := ∀ c : Dev nD,
  (∀ i, ((m ((c : Thread nD τ).loc main_arg0) : Vec F S200 .i32) i).toNat < 1000000)
    ∧ ((m ((c : Thread nD τ).loc main_arg1) : Vec F S_ .i32) ix0).toNat < 2048
    ∧ ((m ((c : Thread nD τ).loc main_arg2) : Vec F S_ .i32) ix0).toNat < 2048
    ∧ ((m ((c : Thread nD τ).loc main_arg3) : Vec F S_ .i32) ix0).toNat < 64

/-- The token words as the first region finds them. -/
theorem V1_arg0 (c : Dev nD) : V1 m ρ c main_arg0 = m ((c : Thread nD τ).loc main_arg0) := W1_args m ρ c _ (by decide)

/-- Indices in range are all the first region asks of its words. -/
theorem words_in (h : InRange m) : ∀ c t, WordsIn (V1 m ρ) c t := by
  intro c t
  obtain ⟨h0, h1, h2, h3⟩ := h c
  unfold WordsIn
  rw [iblk0_0, iblk0_1, idx0_eq, idx1_eq, idx2_eq, V1_arg0]
  exact ⟨h0, chk3_of _ h1, chk4_of _ h2, chk5_of _ h3⟩

end Cert.KernelIdeal.Run

end
-- ==== Proof.RefRun.lean ====
module

public import proofs.«01_k».proof.Proof.Gen.ReferenceIdeal
public import Idealize.ShloMosaic.Lib.StableHlo.Run
public import Idealize.ShloMosaic.Lib.StableHlo.RunClose
public import Idealize.ShloMosaic.Lib.Pipeline.Frame

/-! The reference's run. Its operations stand in five stretches; a lemma for each says what the stretch leaves in the one
buffer that later stretches read, as a function of what it reads; and the run leaves the two results at these functions of
the arguments. -/

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The two halves of the context laid one after the other. -/
def fn_main_v33 : (⟨S64, .f32⟩ : BufTy).Contents (Elt F) → (⟨S64, .f32⟩ : BufTy).Contents (Elt F) → (⟨S128, .f32⟩ : BufTy).Contents (Elt F) :=
  (fun a b => concatenate S128 0 [⟨S64, a⟩, ⟨S64, b⟩] concatenates_S64_S64_S128_d0)

/-- The reference's operations up to the mean of the token rows, -/
abbrev opsTokens : List (HloOp τ sig (Elt F)) :=
  [ TRef.nullary (TRef.of (T := ⟨S_, .i32⟩) main_call0_c) (constantI S_ 32 0#32),
    TRef.unary (TRef.of (T := ⟨S_, .i32⟩) main_call0_c) (TRef.of (T := ⟨S200, .i32⟩) main_call0_v0) (broadcastInDim S200 ![] bcast_S_S200),
    TRef.binary (TRef.of (T := ⟨S200, .i32⟩) main_arg0) (TRef.of (T := ⟨S200, .i32⟩) main_call0_v0) (TRef.of (T := ⟨S200, .i1⟩) main_call0_v1) (cmpi .slt),
    TRef.nullary (TRef.of (T := ⟨S_, .i32⟩) main_call0_c_0) (constantI S_ 32 1000000#32),
    TRef.unary (TRef.of (T := ⟨S_, .i32⟩) main_call0_c_0) (TRef.of (T := ⟨S200, .i32⟩) main_call0_v2) (broadcastInDim S200 ![] bcast_S_S200),
    TRef.binary (TRef.of (T := ⟨S200, .i32⟩) main_arg0) (TRef.of (T := ⟨S200, .i32⟩) main_call0_v2) (TRef.of (T := ⟨S200, .i32⟩) main_call0_v3) addi,
    TRef.ternary (TRef.of (T := ⟨S200, .i1⟩) main_call0_v1) (TRef.of (T := ⟨S200, .i32⟩) main_call0_v3) (TRef.of (T := ⟨S200, .i32⟩) main_arg0) (TRef.of (T := ⟨S200, .i32⟩) main_call0_v4) select,
    TRef.unary (TRef.of (T := ⟨S200, .i32⟩) main_call0_v4) (TRef.of (T := ⟨S200x1, .i32⟩) main_call0_v5) (broadcastInDim S200x1 ![0] bcast_S200_S200x1_0),
    TRef.nullary (TRef.of (T := ⟨S1, .i32⟩) main_call0_c_1) (constantI S1 32 999999#32),
    TRef.nullary (TRef.of (T := ⟨S_, .i32⟩) main_call0_c_2) (constantI S_ 32 0#32),
    TRef.unary (TRef.of (T := ⟨S_, .i32⟩) main_call0_c_2) (TRef.of (T := ⟨S200x1, .i32⟩) main_call0_v6) (broadcastInDim S200x1 ![] bcast_S_S200x1),
    TRef.binary (TRef.of (T := ⟨S200x1, .i32⟩) main_call0_v5) (TRef.of (T := ⟨S200x1, .i32⟩) main_call0_v6) (TRef.of (T := ⟨S200x1, .i1⟩) main_call0_v7) (cmpi .sge),
    TRef.unary (TRef.of (T := ⟨S1, .i32⟩) main_call0_c_1) (TRef.of (T := ⟨S1x1, .i32⟩) main_call0_v8) (broadcastInDim S1x1 ![1] bcast_S1_S1x1_1),
    TRef.unary (TRef.of (T := ⟨S1x1, .i32⟩) main_call0_v8) (TRef.of (T := ⟨S200x1, .i32⟩) main_call0_v9) (broadcastInDim S200x1 ![0, 1] bcast_S1x1_S200x1_0_1),
    TRef.binary (TRef.of (T := ⟨S200x1, .i32⟩) main_call0_v5) (TRef.of (T := ⟨S200x1, .i32⟩) main_call0_v9) (TRef.of (T := ⟨S200x1, .i1⟩) main_call0_v10) (cmpi .sle),
    TRef.binary (TRef.of (T := ⟨S200x1, .i1⟩) main_call0_v7) (TRef.of (T := ⟨S200x1, .i1⟩) main_call0_v10) (TRef.of (T := ⟨S200x1, .i1⟩) main_call0_v11) andi,
    TRef.nullary (TRef.of (T := ⟨S_, .i1⟩) main_call0_c_3) (constantI S_ 1 1#1),
    TRef.binary (TRef.of (T := ⟨S200x1, .i1⟩) main_call0_v11) (TRef.of (T := ⟨S_, .i1⟩) main_call0_c_3) (TRef.of (T := ⟨S200, .i1⟩) main_call0_v12) (fun x v => Host.reduce IntOp.andi x v reducesTo_S200x1_S200_d1 h_S_),
    TRef.binary (TRef.of (T := ⟨S1000000x64, .f32⟩) main_arg5) (TRef.of (T := ⟨S200x1, .i32⟩) main_call0_v5) (TRef.of (T := ⟨S200x64, .f32⟩) main_call0_v13) (fun x i => Host.gather gather_S1000000x64_S200x1_S200x64_1_0_n_n_0_1_164 x i),
    TRef.unary (TRef.of (T := ⟨S200, .i1⟩) main_call0_v12) (TRef.of (T := ⟨S200x64, .i1⟩) main_call0_v14) (broadcastInDim S200x64 ![0] bcast_S200_S200x64_0),
    TRef.nullary (TRef.of (T := ⟨S_, .f32⟩) main_call0_cst) (constant S_ .f32 0x7FC00000#32),
    TRef.unary (TRef.of (T := ⟨S_, .f32⟩) main_call0_cst) (TRef.of (T := ⟨S200x64, .f32⟩) main_call0_v15) (broadcastInDim S200x64 ![] bcast_S_S200x64),
    TRef.ternary (TRef.of (T := ⟨S200x64, .i1⟩) main_call0_v14) (TRef.of (T := ⟨S200x64, .f32⟩) main_call0_v13) (TRef.of (T := ⟨S200x64, .f32⟩) main_call0_v15) (TRef.of (T := ⟨S200x64, .f32⟩) main_v0) select,
    nullary main_cst (constant S_ .f32 0x00000000#32),
    binary main_v0 main_cst main_v1 ((fun x v => Host.reduceAdd x v reducesTo_S200x64_S64_d0 h_S_) : (⟨S200x64, .f32⟩ : BufTy).Contents (Elt F) → (⟨S_, .f32⟩ : BufTy).Contents (Elt F) → (⟨S64, .f32⟩ : BufTy).Contents (Elt F)),
    nullary main_cst_0 (constant S_ .f32 0x43480000#32),
    unary main_cst_0 main_v2 (broadcastInDim S64 ![] bcast_S_S64 : (⟨S_, .f32⟩ : BufTy).Contents (Elt F) → (⟨S64, .f32⟩ : BufTy).Contents (Elt F)),
    binary main_v1 main_v2 main_v3 (Host.divf : (⟨S64, .f32⟩ : BufTy).Contents (Elt F) → (⟨S64, .f32⟩ : BufTy).Contents (Elt F) → (⟨S64, .f32⟩ : BufTy).Contents (Elt F)) ]
abbrev opsTokens_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0, main_cst, main_v1, main_cst_0, main_v2, main_v3]
/-- then up to the first node row, -/
abbrev opsFirst : List (HloOp τ sig (Elt F)) :=
  [ nullary main_c (constantI S_ 32 0#32),
    binary main_arg1 main_c main_v4 (cmpi .slt : (⟨S_, .i32⟩ : BufTy).Contents (Elt F) → (⟨S_, .i32⟩ : BufTy).Contents (Elt F) → (⟨S_, .i1⟩ : BufTy).Contents (Elt F)),
    nullary main_c_1 (constantI S_ 32 2048#32),
    binary main_arg1 main_c_1 main_v5 (addi : (⟨S_, .i32⟩ : BufTy).Contents (Elt F) → (⟨S_, .i32⟩ : BufTy).Contents (Elt F) → (⟨S_, .i32⟩ : BufTy).Contents (Elt F)),
    ternary main_v4 main_v5 main_arg1 main_v6 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_2 (constantI S_ 32 0#32),
    nullary main_c_3 (constantI S_ 32 0#32),
    binary main_c_2 main_c_3 main_v7 (cmpi .slt : (⟨S_, .i32⟩ : BufTy).Contents (Elt F) → (⟨S_, .i32⟩ : BufTy).Contents (Elt F) → (⟨S_, .i1⟩ : BufTy).Contents (Elt F)),
    nullary main_c_4 (constantI S_ 32 0#32),
    nullary main_c_5 (constantI S_ 32 64#32),
    binary main_c_4 main_c_5 main_v8 (addi : (⟨S_, .i32⟩ : BufTy).Contents (Elt F) → (⟨S_, .i32⟩ : BufTy).Contents (Elt F) → (⟨S_, .i32⟩ : BufTy).Contents (Elt F)),
    nullary main_c_6 (constantI S_ 32 0#32),
    ternary main_v7 main_v8 main_c_6 main_v9 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_arg6 ![main_v6, main_v9] ⟨S_, .i32⟩ main_v10 ((fun x i => Host.dynamicSlice S1x64 x (fun k => (i k (Shape.Idx.first h_S_)).toInt) sliceFits_S2048x64_S1x64) : (⟨S2048x64, .f32⟩ : BufTy).Contents (Elt F) → (Fin 2 → (⟨S_, .i32⟩ : BufTy).Contents (Elt F)) → (⟨S1x64, .f32⟩ : BufTy).Contents (Elt F)),
    reshape main_v10 main_v11 (rfl : (.f32 : EltTy) = .f32) shapeCasts_S1x64_S64 ]
abbrev opsFirst_W : List (Ref sig .tc) := [main_c, main_v4, main_c_1, main_v5, main_v6, main_c_2, main_c_3, main_v7, main_c_4, main_c_5, main_v8, main_c_6, main_v9, main_v10, main_v11]
/-- the sum with the second node row, -/
abbrev opsSecond : List (HloOp τ sig (Elt F)) :=
  [ nullary main_c_7 (constantI S_ 32 0#32),
    binary main_arg2 main_c_7 main_v12 (cmpi .slt : (⟨S_, .i32⟩ : BufTy).Contents (Elt F) → (⟨S_, .i32⟩ : BufTy).Contents (Elt F) → (⟨S_, .i1⟩ : BufTy).Contents (Elt F)),
    nullary main_c_8 (constantI S_ 32 2048#32),
    binary main_arg2 main_c_8 main_v13 (addi : (⟨S_, .i32⟩ : BufTy).Contents (Elt F) → (⟨S_, .i32⟩ : BufTy).Contents (Elt F) → (⟨S_, .i32⟩ : BufTy).Contents (Elt F)),
    ternary main_v12 main_v13 main_arg2 main_v14 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_9 (constantI S_ 32 0#32),
    nullary main_c_10 (constantI S_ 32 0#32),
    binary main_c_9 main_c_10 main_v15 (cmpi .slt : (⟨S_, .i32⟩ : BufTy).Contents (Elt F) → (⟨S_, .i32⟩ : BufTy).Contents (Elt F) → (⟨S_, .i1⟩ : BufTy).Contents (Elt F)),
    nullary main_c_11 (constantI S_ 32 0#32),
    nullary main_c_12 (constantI S_ 32 64#32),
    binary main_c_11 main_c_12 main_v16 (addi : (⟨S_, .i32⟩ : BufTy).Contents (Elt F) → (⟨S_, .i32⟩ : BufTy).Contents (Elt F) → (⟨S_, .i32⟩ : BufTy).Contents (Elt F)),
    nullary main_c_13 (constantI S_ 32 0#32),
    ternary main_v15 main_v16 main_c_13 main_v17 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_arg7 ![main_v14, main_v17] ⟨S_, .i32⟩ main_v18 ((fun x i => Host.dynamicSlice S1x64 x (fun k => (i k (Shape.Idx.first h_S_)).toInt) sliceFits_S2048x64_S1x64) : (⟨S2048x64, .f32⟩ : BufTy).Contents (Elt F) → (Fin 2 → (⟨S_, .i32⟩ : BufTy).Contents (Elt F)) → (⟨S1x64, .f32⟩ : BufTy).Contents (Elt F)),
    reshape main_v18 main_v19 (rfl : (.f32 : EltTy) = .f32) shapeCasts_S1x64_S64,
    binary main_v11 main_v19 main_v20 (addf : (⟨S64, .f32⟩ : BufTy).Contents (Elt F) → (⟨S64, .f32⟩ : BufTy).Contents (Elt F) → (⟨S64, .f32⟩ : BufTy).Contents (Elt F)) ]
abbrev opsSecond_W : List (Ref sig .tc) := [main_c_7, main_v12, main_c_8, main_v13, main_v14, main_c_9, main_c_10, main_v15, main_c_11, main_c_12, main_v16, main_c_13, main_v17, main_v18, main_v19, main_v20]
/-- the sum with the language row, -/
abbrev opsThird : List (HloOp τ sig (Elt F)) :=
  [ nullary main_c_14 (constantI S_ 32 0#32),
    binary main_arg3 main_c_14 main_v21 (cmpi .slt : (⟨S_, .i32⟩ : BufTy).Contents (Elt F) → (⟨S_, .i32⟩ : BufTy).Contents (Elt F) → (⟨S_, .i1⟩ : BufTy).Contents (Elt F)),
    nullary main_c_15 (constantI S_ 32 64#32),
    binary main_arg3 main_c_15 main_v22 (addi : (⟨S_, .i32⟩ : BufTy).Contents (Elt F) → (⟨S_, .i32⟩ : BufTy).Contents (Elt F) → (⟨S_, .i32⟩ : BufTy).Contents (Elt F)),
    ternary main_v21 main_v22 main_arg3 main_v23 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_16 (constantI S_ 32 0#32),
    nullary main_c_17 (constantI S_ 32 0#32),
    binary main_c_16 main_c_17 main_v24 (cmpi .slt : (⟨S_, .i32⟩ : BufTy).Contents (Elt F) → (⟨S_, .i32⟩ : BufTy).Contents (Elt F) → (⟨S_, .i1⟩ : BufTy).Contents (Elt F)),
    nullary main_c_18 (constantI S_ 32 0#32),
    nullary main_c_19 (constantI S_ 32 64#32),
    binary main_c_18 main_c_19 main_v25 (addi : (⟨S_, .i32⟩ : BufTy).Contents (Elt F) → (⟨S_, .i32⟩ : BufTy).Contents (Elt F) → (⟨S_, .i32⟩ : BufTy).Contents (Elt F)),
    nullary main_c_20 (constantI S_ 32 0#32),
    ternary main_v24 main_v25 main_c_20 main_v26 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_arg8 ![main_v23, main_v26] ⟨S_, .i32⟩ main_v27 ((fun x i => Host.dynamicSlice S1x64 x (fun k => (i k (Shape.Idx.first h_S_)).toInt) sliceFits_S64x64_S1x64) : (⟨S64x64, .f32⟩ : BufTy).Contents (Elt F) → (Fin 2 → (⟨S_, .i32⟩ : BufTy).Contents (Elt F)) → (⟨S1x64, .f32⟩ : BufTy).Contents (Elt F)),
    reshape main_v27 main_v28 (rfl : (.f32 : EltTy) = .f32) shapeCasts_S1x64_S64,
    binary main_v20 main_v28 main_v29 (addf : (⟨S64, .f32⟩ : BufTy).Contents (Elt F) → (⟨S64, .f32⟩ : BufTy).Contents (Elt F) → (⟨S64, .f32⟩ : BufTy).Contents (Elt F)) ]
abbrev opsThird_W : List (Ref sig .tc) := [main_c_14, main_v21, main_c_15, main_v22, main_v23, main_c_16, main_c_17, main_v24, main_c_18, main_c_19, main_v25, main_c_20, main_v26, main_v27, main_v28, main_v29]
/-- and the rest. -/
abbrev opsHidden : List (HloOp τ sig (Elt F)) :=
  [ binary main_arg9 main_arg4 main_v30 ((fun l r => Host.dotGeneral dot_S64x3_S3_S64_1_0_0_n_n_n none l r) : (⟨S64x3, .f32⟩ : BufTy).Contents (Elt F) → (⟨S3, .f32⟩ : BufTy).Contents (Elt F) → (⟨S64, .f32⟩ : BufTy).Contents (Elt F)),
    binary main_v30 main_arg10 main_v31 (addf : (⟨S64, .f32⟩ : BufTy).Contents (Elt F) → (⟨S64, .f32⟩ : BufTy).Contents (Elt F) → (⟨S64, .f32⟩ : BufTy).Contents (Elt F)),
    binary main_v29 main_v31 main_v32 (addf : (⟨S64, .f32⟩ : BufTy).Contents (Elt F) → (⟨S64, .f32⟩ : BufTy).Contents (Elt F) → (⟨S64, .f32⟩ : BufTy).Contents (Elt F)),
    binary main_v3 main_v32 main_v33 (fn_main_v33 (F := F)),
    binary main_arg11 main_v33 main_v34 ((fun l r => Host.dotGeneral dot_S64x128_S128_S64_1_0_0_n_n_n none l r) : (⟨S64x128, .f32⟩ : BufTy).Contents (Elt F) → (⟨S128, .f32⟩ : BufTy).Contents (Elt F) → (⟨S64, .f32⟩ : BufTy).Contents (Elt F)),
    binary main_v34 main_arg12 main_v35 (addf : (⟨S64, .f32⟩ : BufTy).Contents (Elt F) → (⟨S64, .f32⟩ : BufTy).Contents (Elt F) → (⟨S64, .f32⟩ : BufTy).Contents (Elt F)),
    unary main_v35 main_v36 (Host.tanh : (⟨S64, .f32⟩ : BufTy).Contents (Elt F) → (⟨S64, .f32⟩ : BufTy).Contents (Elt F)),
    binary main_arg13 main_v36 main_v37 ((fun l r => Host.dotGeneral dot_S1x64_S64_S1_1_0_0_n_n_n none l r) : (⟨S1x64, .f32⟩ : BufTy).Contents (Elt F) → (⟨S64, .f32⟩ : BufTy).Contents (Elt F) → (⟨S1, .f32⟩ : BufTy).Contents (Elt F)),
    binary main_v37 main_arg14 main_v38 (addf : (⟨S1, .f32⟩ : BufTy).Contents (Elt F) → (⟨S1, .f32⟩ : BufTy).Contents (Elt F) → (⟨S1, .f32⟩ : BufTy).Contents (Elt F)),
    reshape main_v38 main_v39 (rfl : (.f32 : EltTy) = .f32) shapeCasts_S1_S_,
    binary main_arg15 main_v36 main_v40 ((fun l r => Host.dotGeneral dot_S1000000x64_S64_S1000000_1_0_0_n_n_n none l r) : (⟨S1000000x64, .f32⟩ : BufTy).Contents (Elt F) → (⟨S64, .f32⟩ : BufTy).Contents (Elt F) → (⟨S1000000, .f32⟩ : BufTy).Contents (Elt F)),
    binary main_v40 main_arg16 main_v41 (addf : (⟨S1000000, .f32⟩ : BufTy).Contents (Elt F) → (⟨S1000000, .f32⟩ : BufTy).Contents (Elt F) → (⟨S1000000, .f32⟩ : BufTy).Contents (Elt F)) ]
abbrev opsHidden_W : List (Ref sig .tc) := [main_v30, main_v31, main_v32, main_v33, main_v34, main_v35, main_v36, main_v37, main_v38, main_v39, main_v40, main_v41]

set_option maxHeartbeats 4000000 in
theorem main_eq (c : Dev nD) : main (F := F) c = seq (opsTokens ++ (opsFirst ++ (opsSecond ++ (opsThird ++ opsHidden)))) := rfl
theorem scopedRefs_eq : (Finset.univ.filter fun b : Ref sig .tc => b.isScoped) = ∅ := by decide
theorem scopedSems_eq : (Finset.univ.filter fun sm : SemLoc sig => sm.isScoped .tc) = ∅ := by decide
theorem opsTokens_sub : (opsTokens : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., binary_bufs_sub .., nullary_bufs_sub .., unary_bufs_sub .., binary_bufs_sub ..⟩
theorem opsFirst_sub : (opsFirst : List (HloOp τ sig (Elt F))).Forall fun op => op.bufs ⊆ tcRefs τ sig :=
  ⟨nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., unaryIndexed_bufs_sub .., reshape_bufs_sub ..⟩
theorem opsSecond_sub : (opsSecond : List (HloOp τ sig (Elt F))).Forall fun op => op.bufs ⊆ tcRefs τ sig :=
  ⟨nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., unaryIndexed_bufs_sub .., reshape_bufs_sub .., binary_bufs_sub ..⟩
theorem opsThird_sub : (opsThird : List (HloOp τ sig (Elt F))).Forall fun op => op.bufs ⊆ tcRefs τ sig :=
  ⟨nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., unaryIndexed_bufs_sub .., reshape_bufs_sub .., binary_bufs_sub ..⟩
theorem opsHidden_sub : (opsHidden : List (HloOp τ sig (Elt F))).Forall fun op => op.bufs ⊆ tcRefs τ sig :=
  ⟨binary_bufs_sub .., binary_bufs_sub .., binary_bufs_sub .., binary_bufs_sub .., binary_bufs_sub .., binary_bufs_sub .., unary_bufs_sub .., binary_bufs_sub .., binary_bufs_sub .., reshape_bufs_sub .., binary_bufs_sub .., binary_bufs_sub ..⟩
theorem opsTokens_writes : (opsTokens : List (HloOp τ sig (Elt F))).Forall fun op => op.writes ⊆ (opsTokens_W.map (Proc.devRef (τ := τ) .tc)).toFinset :=
  forall_writes_sub_of_map rfl
theorem opsFirst_writes : (opsFirst : List (HloOp τ sig (Elt F))).Forall fun op => op.writes ⊆ (opsFirst_W.map (Proc.devRef (τ := τ) .tc)).toFinset :=
  forall_writes_sub_of_map rfl
theorem opsSecond_writes : (opsSecond : List (HloOp τ sig (Elt F))).Forall fun op => op.writes ⊆ (opsSecond_W.map (Proc.devRef (τ := τ) .tc)).toFinset :=
  forall_writes_sub_of_map rfl
theorem opsThird_writes : (opsThird : List (HloOp τ sig (Elt F))).Forall fun op => op.writes ⊆ (opsThird_W.map (Proc.devRef (τ := τ) .tc)).toFinset :=
  forall_writes_sub_of_map rfl
theorem opsHidden_writes : (opsHidden : List (HloOp τ sig (Elt F))).Forall fun op => op.writes ⊆ (opsHidden_W.map (Proc.devRef (τ := τ) .tc)).toFinset :=
  forall_writes_sub_of_map rfl

theorem ops_sub : (opsTokens ++ (opsFirst ++ (opsSecond ++ (opsThird ++ opsHidden))) : List (HloOp τ sig (Elt F))).Forall fun op => op.bufs ⊆ tcRefs τ sig := by
  simp only [List.forall_iff_forall_mem, List.mem_append]
  rintro op (h | h | h | h | h)
  · exact List.forall_iff_forall_mem.1 opsTokens_sub op h
  · exact List.forall_iff_forall_mem.1 opsFirst_sub op h
  · exact List.forall_iff_forall_mem.1 opsSecond_sub op h
  · exact List.forall_iff_forall_mem.1 opsThird_sub op h
  · exact List.forall_iff_forall_mem.1 opsHidden_sub op h

/-- No operation allocates. -/
theorem opsTokens_fresh : ∀ op ∈ (opsTokens : List (HloOp τ sig (Elt F))), op.fresh = ∅ := by
  intro _ h; (repeat (cases h with | head => rfl | tail _ h => ?_)); exact nomatch h

theorem opsFirst_fresh : ∀ op ∈ (opsFirst : List (HloOp τ sig (Elt F))), op.fresh = ∅ := by
  intro _ h; (repeat (cases h with | head => rfl | tail _ h => ?_)); exact nomatch h

theorem opsSecond_fresh : ∀ op ∈ (opsSecond : List (HloOp τ sig (Elt F))), op.fresh = ∅ := by
  intro _ h; (repeat (cases h with | head => rfl | tail _ h => ?_)); exact nomatch h

theorem opsThird_fresh : ∀ op ∈ (opsThird : List (HloOp τ sig (Elt F))), op.fresh = ∅ := by
  intro _ h; (repeat (cases h with | head => rfl | tail _ h => ?_)); exact nomatch h

theorem opsHidden_fresh : ∀ op ∈ (opsHidden : List (HloOp τ sig (Elt F))), op.fresh = ∅ := by
  intro _ h; (repeat (cases h with | head => rfl | tail _ h => ?_)); exact nomatch h

theorem ops_fresh : ∀ op ∈ (opsTokens ++ (opsFirst ++ (opsSecond ++ (opsThird ++ opsHidden))) : List (HloOp τ sig (Elt F))), op.fresh = ∅ := by
  intro op h
  simp only [List.mem_append] at h
  rcases h with h | h | h | h | h
  · exact opsTokens_fresh op h
  · exact opsFirst_fresh op h
  · exact opsSecond_fresh op h
  · exact opsThird_fresh op h
  · exact opsHidden_fresh op h

/-- A word counted from the end where it is negative. -/
def wrap (bound : BitVec 32) (w : IVec S_ 32) : IVec S_ 32 := select (cmpi .slt w (constantI S_ 32 0#32)) (addi w (constantI S_ 32 bound)) w
/-- The token words so, as a column. -/
def wrapTokens (x : IVec S200 32) : IVec S200x1 32 :=
  broadcastInDim S200x1 ![0] bcast_S200_S200x1_0 (select (cmpi .slt x (broadcastInDim S200 ![] bcast_S_S200 (constantI S_ 32 0#32)))
    (addi x (broadcastInDim S200 ![] bcast_S_S200 (constantI S_ 32 1000000#32))) x)
/-- Which of those words name a row of the table. -/
def named (w : IVec S200x1 32) : IVec S200 1 :=
  Host.reduce IntOp.andi (andi (cmpi .sge w (broadcastInDim S200x1 ![] bcast_S_S200x1 (constantI S_ 32 0#32)))
    (cmpi .sle w (broadcastInDim S200x1 ![0, 1] bcast_S1x1_S200x1_0_1 (broadcastInDim S1x1 ![1] bcast_S1_S1x1_1 (constantI S1 32 999999#32)))))
    (constantI S_ 1 1#1) reducesTo_S200x1_S200_d1 h_S_
/-- The token rows. -/
def tokenRows (x : IVec S200 32) (T : FVec F S1000000x64 .f32) : FVec F S200x64 .f32 :=
  select (broadcastInDim S200x64 ![0] bcast_S200_S200x64_0 (named (wrapTokens x)))
    (Host.gather gather_S1000000x64_S200x1_S200x64_1_0_n_n_0_1_164 T (wrapTokens x))
    (broadcastInDim S200x64 ![] bcast_S_S200x64 (constant S_ .f32 0x7FC00000#32))
/-- Their mean. -/
def tokenMean (x : IVec S200 32) (T : FVec F S1000000x64 .f32) : FVec F S64 .f32 :=
  Host.divf (Host.reduceAdd (tokenRows x T) (constant S_ .f32 0x00000000#32) reducesTo_S200x64_S64_d0 h_S_)
    (broadcastInDim S64 ![] bcast_S_S64 (constant S_ .f32 0x43480000#32))
/-- The column at which a row begins: zero, wrapped the same way. -/
def col0 : IVec S_ 32 := wrap 64#32 (constantI S_ 32 0#32)
/-- A row of a node table, -/
def nodeRow (w : IVec S_ 32) (T : FVec F S2048x64 .f32) : FVec F S64 .f32 :=
  shapeCast S64 (Host.dynamicSlice S1x64 T (fun k => ((![wrap 2048#32 w, col0] : Fin 2 → IVec S_ 32) k (Shape.Idx.first h_S_)).toInt) sliceFits_S2048x64_S1x64) shapeCasts_S1x64_S64
/-- and of the language table. -/
def langRow (w : IVec S_ 32) (T : FVec F S64x64 .f32) : FVec F S64 .f32 :=
  shapeCast S64 (Host.dynamicSlice S1x64 T (fun k => ((![wrap 64#32 w, col0] : Fin 2 → IVec S_ 32) k (Shape.Idx.first h_S_)).toInt) sliceFits_S64x64_S1x64) shapeCasts_S1x64_S64
/-- The hidden layer of a context's two halves. -/
def hidden (mean rest : FVec F S64 .f32) (W : FVec F S64x128 .f32) (b : FVec F S64 .f32) : FVec F S64 .f32 :=
  Host.tanh (addf (Host.dotGeneral dot_S64x128_S128_S64_1_0_0_n_n_n none W (concatenate S128 0 [⟨S64, mean⟩, ⟨S64, rest⟩] concatenates_S64_S64_S128_d0)) b)
/-- The context's second half: the three rows and the projected features. -/
def restOf (rows : FVec F S64 .f32) (W : FVec F S64x3 .f32) (x : FVec F S3 .f32) (b : FVec F S64 .f32) : FVec F S64 .f32 :=
  addf rows (addf (Host.dotGeneral dot_S64x3_S3_S64_1_0_0_n_n_n none W x) b)
/-- The scalar result of a hidden layer, -/
def scalarOf (hid : FVec F S64 .f32) (W : FVec F S1x64 .f32) (b : FVec F S1 .f32) : FVec F S_ .f32 :=
  shapeCast S_ (addf (Host.dotGeneral dot_S1x64_S64_S1_1_0_0_n_n_n none W hid) b) shapeCasts_S1_S_
/-- and the long one. -/
def longOf (hid : FVec F S64 .f32) (W : FVec F S1000000x64 .f32) (b : FVec F S1000000 .f32) : FVec F S1000000 .f32 :=
  addf (Host.dotGeneral dot_S1000000x64_S64_S1000000_1_0_0_n_n_n none W hid) b

variable (V : Valuation τ sig (Elt F))

/-- What each stretch leaves. -/
theorem tokens_v3 : after opsTokens V (Proc.devRef .tc main_v3) = tokenMean (V (Proc.devRef .tc main_arg0)) (V (Proc.devRef .tc main_arg5)) := by
  after_results_simp_entrywise
  try rfl
theorem first_v11 : after opsFirst V (Proc.devRef .tc main_v11) = nodeRow (V (Proc.devRef .tc main_arg1)) (V (Proc.devRef .tc main_arg6)) := by
  after_results_simp_entrywise
  try rfl
theorem second_v20 : after opsSecond V (Proc.devRef .tc main_v20)
    = addf (V (Proc.devRef .tc main_v11) : FVec F S64 .f32) (nodeRow (V (Proc.devRef .tc main_arg2)) (V (Proc.devRef .tc main_arg7))) := by
  after_results_simp_entrywise
  try rfl
theorem third_v29 : after opsThird V (Proc.devRef .tc main_v29)
    = addf (V (Proc.devRef .tc main_v20) : FVec F S64 .f32) (langRow (V (Proc.devRef .tc main_arg3)) (V (Proc.devRef .tc main_arg8))) := by
  after_results_simp_entrywise
  try rfl
theorem hidden_v39 : after opsHidden V (Proc.devRef .tc main_v39)
    = scalarOf (hidden (V (Proc.devRef .tc main_v3)) (restOf (V (Proc.devRef .tc main_v29)) (V (Proc.devRef .tc main_arg9)) (V (Proc.devRef .tc main_arg4)) (V (Proc.devRef .tc main_arg10)))
      (V (Proc.devRef .tc main_arg11)) (V (Proc.devRef .tc main_arg12))) (V (Proc.devRef .tc main_arg13)) (V (Proc.devRef .tc main_arg14)) := by
  after_results_simp_entrywise
  try rfl
theorem hidden_v41 : after opsHidden V (Proc.devRef .tc main_v41)
    = longOf (hidden (V (Proc.devRef .tc main_v3)) (restOf (V (Proc.devRef .tc main_v29)) (V (Proc.devRef .tc main_arg9)) (V (Proc.devRef .tc main_arg4)) (V (Proc.devRef .tc main_arg10)))
      (V (Proc.devRef .tc main_arg11)) (V (Proc.devRef .tc main_arg12))) (V (Proc.devRef .tc main_arg15)) (V (Proc.devRef .tc main_arg16)) := by
  after_results_simp_entrywise
  try rfl

/-- The whole line. -/
abbrev opsAll : List (HloOp τ sig (Elt F)) := opsTokens ++ (opsFirst ++ (opsSecond ++ (opsThird ++ opsHidden)))
theorem after_all : after opsAll V = after opsHidden (after opsThird (after opsSecond (after opsFirst (after opsTokens V)))) := by
  simp only [opsAll, StableHlo.after_append]

/-- A buffer that none of the first stretches writes. -/
theorem upto1 (r : Ref sig .tc) (h0 : r ∉ opsTokens_W) : after opsTokens V (Proc.devRef .tc r) = V (Proc.devRef .tc r) :=
  after_of_writes_sub _ _ opsTokens_writes h0
theorem upto2 (r : Ref sig .tc) (h0 : r ∉ opsTokens_W) (h1 : r ∉ opsFirst_W) :
    after opsFirst (after opsTokens V) (Proc.devRef .tc r) = V (Proc.devRef .tc r) :=
  (after_of_writes_sub _ _ opsFirst_writes h1).trans (upto1 V r h0)
theorem upto3 (r : Ref sig .tc) (h0 : r ∉ opsTokens_W) (h1 : r ∉ opsFirst_W) (h2 : r ∉ opsSecond_W) :
    after opsSecond (after opsFirst (after opsTokens V)) (Proc.devRef .tc r) = V (Proc.devRef .tc r) :=
  (after_of_writes_sub _ _ opsSecond_writes h2).trans (upto2 V r h0 h1)
theorem upto4 (r : Ref sig .tc) (h0 : r ∉ opsTokens_W) (h1 : r ∉ opsFirst_W) (h2 : r ∉ opsSecond_W) (h3 : r ∉ opsThird_W) :
    after opsThird (after opsSecond (after opsFirst (after opsTokens V))) (Proc.devRef .tc r) = V (Proc.devRef .tc r) :=
  (after_of_writes_sub _ _ opsThird_writes h3).trans (upto3 V r h0 h1 h2)
theorem upto5 (r : Ref sig .tc) (h0 : r ∉ opsTokens_W) (h1 : r ∉ opsFirst_W) (h2 : r ∉ opsSecond_W) (h3 : r ∉ opsThird_W) (h4 : r ∉ opsHidden_W) :
    after opsAll V (Proc.devRef .tc r) = V (Proc.devRef .tc r) := by
  rw [after_all]; exact (after_of_writes_sub _ _ opsHidden_writes h4).trans (upto4 V r h0 h1 h2 h3)

/-- The two halves of the context, as the last stretch finds them. -/
theorem at_v3 : after opsThird (after opsSecond (after opsFirst (after opsTokens V))) (Proc.devRef .tc main_v3)
    = tokenMean (V (Proc.devRef .tc main_arg0)) (V (Proc.devRef .tc main_arg5)) := by
  rw [after_of_writes_sub _ _ opsThird_writes (by decide), after_of_writes_sub _ _ opsSecond_writes (by decide),
    after_of_writes_sub _ _ opsFirst_writes (by decide), tokens_v3]
theorem at_v29 : after opsThird (after opsSecond (after opsFirst (after opsTokens V))) (Proc.devRef .tc main_v29)
    = addf (addf (nodeRow (V (Proc.devRef .tc main_arg1)) (V (Proc.devRef .tc main_arg6))) (nodeRow (V (Proc.devRef .tc main_arg2)) (V (Proc.devRef .tc main_arg7))))
      (langRow (V (Proc.devRef .tc main_arg3)) (V (Proc.devRef .tc main_arg8))) := by
  rw [third_v29, second_v20, first_v11, upto3 V main_arg3 (by decide) (by decide) (by decide), upto3 V main_arg8 (by decide) (by decide) (by decide),
    upto2 V main_arg2 (by decide) (by decide), upto2 V main_arg7 (by decide) (by decide), upto1 V main_arg1 (by decide), upto1 V main_arg6 (by decide)]

/-- The hidden layer the reference computes of its arguments, -/
def hiddenOf (a0 : IVec S200 32) (a1 a2 a3 : IVec S_ 32) (a4 : FVec F S3 .f32) (a5 : FVec F S1000000x64 .f32) (a6 a7 : FVec F S2048x64 .f32)
    (a8 : FVec F S64x64 .f32) (a9 : FVec F S64x3 .f32) (a10 : FVec F S64 .f32) (a11 : FVec F S64x128 .f32) (a12 : FVec F S64 .f32) : FVec F S64 .f32 :=
  hidden (tokenMean a0 a5) (restOf (addf (addf (nodeRow a1 a6) (nodeRow a2 a7)) (langRow a3 a8)) a9 a4 a10) a11 a12

/-- of the arguments in a core's memory. -/
abbrev hiddenAt (c : Dev nD) (m : (ℓ : Loc nD τ sig) → Buf (Elt F) ℓ) : FVec F S64 .f32 :=
  hiddenOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))

theorem all_v39 : after opsAll V (Proc.devRef .tc main_v39)
    = scalarOf (hiddenOf (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))) (V (Proc.devRef .tc main_arg13)) (V (Proc.devRef .tc main_arg14)) := by
  rw [after_all, hidden_v39, at_v3, at_v29]
  simp only [upto4 V main_arg4 (by decide) (by decide) (by decide) (by decide), upto4 V main_arg9 (by decide) (by decide) (by decide) (by decide), upto4 V main_arg10 (by decide) (by decide) (by decide) (by decide), upto4 V main_arg11 (by decide) (by decide) (by decide) (by decide), upto4 V main_arg12 (by decide) (by decide) (by decide) (by decide), upto4 V main_arg13 (by decide) (by decide) (by decide) (by decide), upto4 V main_arg14 (by decide) (by decide) (by decide) (by decide), upto4 V main_arg15 (by decide) (by decide) (by decide) (by decide), upto4 V main_arg16 (by decide) (by decide) (by decide) (by decide)]
  rfl
theorem all_v41 : after opsAll V (Proc.devRef .tc main_v41)
    = longOf (hiddenOf (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))) (V (Proc.devRef .tc main_arg15)) (V (Proc.devRef .tc main_arg16)) := by
  rw [after_all, hidden_v41, at_v3, at_v29]
  simp only [upto4 V main_arg4 (by decide) (by decide) (by decide) (by decide), upto4 V main_arg9 (by decide) (by decide) (by decide) (by decide), upto4 V main_arg10 (by decide) (by decide) (by decide) (by decide), upto4 V main_arg11 (by decide) (by decide) (by decide) (by decide), upto4 V main_arg12 (by decide) (by decide) (by decide) (by decide), upto4 V main_arg13 (by decide) (by decide) (by decide) (by decide), upto4 V main_arg14 (by decide) (by decide) (by decide) (by decide), upto4 V main_arg15 (by decide) (by decide) (by decide) (by decide), upto4 V main_arg16 (by decide) (by decide) (by decide) (by decide)]
  rfl

/-- The reference ends with its two results at those functions of its arguments, and its arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39) = scalarOf (hiddenAt c m) (m ((c.tc : Thread nD τ).loc main_arg13)) (m ((c.tc : Thread nD τ).loc main_arg14))
      ∧ r.2.mem ((c.tc : Thread nD τ).loc main_v41) = longOf (hiddenAt c m) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v39).trans (all_v39 _), (h c main_v41).trans (all_v41 _),
      (h c main_arg0).trans (upto5 _ main_arg0 (by decide) (by decide) (by decide) (by decide) (by decide)),
      (h c main_arg1).trans (upto5 _ main_arg1 (by decide) (by decide) (by decide) (by decide) (by decide)),
      (h c main_arg2).trans (upto5 _ main_arg2 (by decide) (by decide) (by decide) (by decide) (by decide)),
      (h c main_arg3).trans (upto5 _ main_arg3 (by decide) (by decide) (by decide) (by decide) (by decide)),
      (h c main_arg4).trans (upto5 _ main_arg4 (by decide) (by decide) (by decide) (by decide) (by decide)),
      (h c main_arg5).trans (upto5 _ main_arg5 (by decide) (by decide) (by decide) (by decide) (by decide)),
      (h c main_arg6).trans (upto5 _ main_arg6 (by decide) (by decide) (by decide) (by decide) (by decide)),
      (h c main_arg7).trans (upto5 _ main_arg7 (by decide) (by decide) (by decide) (by decide) (by decide)),
      (h c main_arg8).trans (upto5 _ main_arg8 (by decide) (by decide) (by decide) (by decide) (by decide)),
      (h c main_arg9).trans (upto5 _ main_arg9 (by decide) (by decide) (by decide) (by decide) (by decide)),
      (h c main_arg10).trans (upto5 _ main_arg10 (by decide) (by decide) (by decide) (by decide) (by decide)),
      (h c main_arg11).trans (upto5 _ main_arg11 (by decide) (by decide) (by decide) (by decide) (by decide)),
      (h c main_arg12).trans (upto5 _ main_arg12 (by decide) (by decide) (by decide) (by decide) (by decide)),
      (h c main_arg13).trans (upto5 _ main_arg13 (by decide) (by decide) (by decide) (by decide) (by decide)),
      (h c main_arg14).trans (upto5 _ main_arg14 (by decide) (by decide) (by decide) (by decide) (by decide)),
      (h c main_arg15).trans (upto5 _ main_arg15 (by decide) (by decide) (by decide) (by decide) (by decide)),
      (h c main_arg16).trans (upto5 _ main_arg16 (by decide) (by decide) (by decide) (by decide) (by decide))⟩)
    (run_seq scopedRefs_eq scopedSems_eq defs main (fun _ => opsAll) main_eq (fun _ => ops_sub) m ρ (fun _ op h => ops_fresh op h))

end Cert.ReferenceIdeal.Value

end
-- ==== Proof.Frames.lean ====
module

public import proofs.«01_k».proof.Defs
public import proofs.«01_k».proof.Proof.InRange
public import proofs.«01_k».proof.Proof.IdealWords
public import proofs.«01_k».proof.Proof.BitsWords
public import proofs.«01_k».proof.Proof.RefRun
public import proofs.«01_k».proof.Proof.Gen.Pre_in_range
public import Idealize.ShloMosaic.Lib.Quiescent

/-! The frame claims: each program ends, with its arguments as they were; and the named constant's value. -/

@[expose] public section

noncomputable section

namespace Cert.Frames

open Idealize.ShloMosaic Idealize.ShloMosaic.TcCoe Idealize.SL.Sem

/-- The precondition puts the index arguments in range. -/
theorem inRange_Kernel (m : (ℓ : Loc Cert.Kernel.nD Cert.Kernel.τ Cert.Kernel.sig) → Buf (Elt Bits) ℓ) (h : Cert.Pre_Kernel m) : Cert.Kernel.Run.InRange m := by
  intro c
  obtain ⟨h0, h1, h2, h3⟩ := Cert.InRange.bounds _ _ _ _ _ _ _ _ _ _ _ _ _ _ _ _ _ (h c)
  exact ⟨h0, h1 _, h2 _, h3 _⟩

/-- It ends, and leaves its arguments as they were. -/
theorem frame_Kernel : Cert.quiescent_Kernel := fun m g hm =>
  (θ_run Cert.Kernel.defs _ _).mono (fun r h => ⟨fun c => ⟨
    (h.1 c _ (Cert.Kernel.Run.mem_uc Cert.Kernel.main_arg0 (by decide))).trans (Cert.Kernel.Run.W5_main_arg0 m g c),
    (h.1 c _ (Cert.Kernel.Run.mem_uc Cert.Kernel.main_arg1 (by decide))).trans (Cert.Kernel.Run.W5_main_arg1 m g c),
    (h.1 c _ (Cert.Kernel.Run.mem_uc Cert.Kernel.main_arg2 (by decide))).trans (Cert.Kernel.Run.W5_main_arg2 m g c),
    (h.1 c _ (Cert.Kernel.Run.mem_uc Cert.Kernel.main_arg3 (by decide))).trans (Cert.Kernel.Run.W5_main_arg3 m g c),
    (h.1 c _ (Cert.Kernel.Run.mem_uc Cert.Kernel.main_arg4 (by decide))).trans (Cert.Kernel.Run.W5_main_arg4 m g c),
    (h.1 c _ (Cert.Kernel.Run.mem_uc Cert.Kernel.main_arg5 (by decide))).trans (Cert.Kernel.Run.W5_main_arg5 m g c),
    (h.1 c _ (Cert.Kernel.Run.mem_uc Cert.Kernel.main_arg6 (by decide))).trans (Cert.Kernel.Run.W5_main_arg6 m g c),
    (h.1 c _ (Cert.Kernel.Run.mem_uc Cert.Kernel.main_arg7 (by decide))).trans (Cert.Kernel.Run.W5_main_arg7 m g c),
    (h.1 c _ (Cert.Kernel.Run.mem_uc Cert.Kernel.main_arg8 (by decide))).trans (Cert.Kernel.Run.W5_main_arg8 m g c),
    (h.1 c _ (Cert.Kernel.Run.mem_uc Cert.Kernel.main_arg9 (by decide))).trans (Cert.Kernel.Run.W5_main_arg9 m g c),
    (h.1 c _ (Cert.Kernel.Run.mem_uc Cert.Kernel.main_arg10 (by decide))).trans (Cert.Kernel.Run.W5_main_arg10 m g c),
    (h.1 c _ (Cert.Kernel.Run.mem_uc Cert.Kernel.main_arg11 (by decide))).trans (Cert.Kernel.Run.W5_main_arg11 m g c),
    (h.1 c _ (Cert.Kernel.Run.mem_uc Cert.Kernel.main_arg12 (by decide))).trans (Cert.Kernel.Run.W5_main_arg12 m g c),
    (h.1 c _ (Cert.Kernel.Run.mem_uc Cert.Kernel.main_arg13 (by decide))).trans (Cert.Kernel.Run.W5_main_arg13 m g c),
    (h.1 c _ (Cert.Kernel.Run.mem_uc Cert.Kernel.main_arg14 (by decide))).trans (Cert.Kernel.Run.W5_main_arg14 m g c),
    (h.1 c _ (Cert.Kernel.Run.mem_uc Cert.Kernel.main_arg15 (by decide))).trans (Cert.Kernel.Run.W5_main_arg15 m g c),
    (h.1 c _ (Cert.Kernel.Run.mem_uc Cert.Kernel.main_arg16 (by decide))).trans (Cert.Kernel.Run.W5_main_arg16 m g c)⟩, h.2⟩)
    (Cert.Kernel.Run.runs m g (Cert.Kernel.Run.words_in m g (inRange_Kernel m hm)))

/-- The precondition puts the index arguments in range. -/
theorem inRange_KernelIdeal (m : (ℓ : Loc Cert.KernelIdeal.nD Cert.KernelIdeal.τ Cert.KernelIdeal.sig) → Buf (Elt Ideal) ℓ) (h : Cert.Pre_KernelIdeal m) : Cert.KernelIdeal.Run.InRange m := by
  intro c
  obtain ⟨h0, h1, h2, h3⟩ := Cert.InRange.bounds _ _ _ _ _ _ _ _ _ _ _ _ _ _ _ _ _ (h c)
  exact ⟨h0, h1 _, h2 _, h3 _⟩

/-- It ends, and leaves its arguments as they were. -/
theorem frame_KernelIdeal : Cert.quiescent_KernelIdeal := fun m g hm =>
  (θ_run Cert.KernelIdeal.defs _ _).mono (fun r h => ⟨fun c => ⟨
    (h.1 c _ (Cert.KernelIdeal.Run.mem_uc Cert.KernelIdeal.main_arg0 (by decide))).trans (Cert.KernelIdeal.Run.W5_main_arg0 m g c),
    (h.1 c _ (Cert.KernelIdeal.Run.mem_uc Cert.KernelIdeal.main_arg1 (by decide))).trans (Cert.KernelIdeal.Run.W5_main_arg1 m g c),
    (h.1 c _ (Cert.KernelIdeal.Run.mem_uc Cert.KernelIdeal.main_arg2 (by decide))).trans (Cert.KernelIdeal.Run.W5_main_arg2 m g c),
    (h.1 c _ (Cert.KernelIdeal.Run.mem_uc Cert.KernelIdeal.main_arg3 (by decide))).trans (Cert.KernelIdeal.Run.W5_main_arg3 m g c),
    (h.1 c _ (Cert.KernelIdeal.Run.mem_uc Cert.KernelIdeal.main_arg4 (by decide))).trans (Cert.KernelIdeal.Run.W5_main_arg4 m g c),
    (h.1 c _ (Cert.KernelIdeal.Run.mem_uc Cert.KernelIdeal.main_arg5 (by decide))).trans (Cert.KernelIdeal.Run.W5_main_arg5 m g c),
    (h.1 c _ (Cert.KernelIdeal.Run.mem_uc Cert.KernelIdeal.main_arg6 (by decide))).trans (Cert.KernelIdeal.Run.W5_main_arg6 m g c),
    (h.1 c _ (Cert.KernelIdeal.Run.mem_uc Cert.KernelIdeal.main_arg7 (by decide))).trans (Cert.KernelIdeal.Run.W5_main_arg7 m g c),
    (h.1 c _ (Cert.KernelIdeal.Run.mem_uc Cert.KernelIdeal.main_arg8 (by decide))).trans (Cert.KernelIdeal.Run.W5_main_arg8 m g c),
    (h.1 c _ (Cert.KernelIdeal.Run.mem_uc Cert.KernelIdeal.main_arg9 (by decide))).trans (Cert.KernelIdeal.Run.W5_main_arg9 m g c),
    (h.1 c _ (Cert.KernelIdeal.Run.mem_uc Cert.KernelIdeal.main_arg10 (by decide))).trans (Cert.KernelIdeal.Run.W5_main_arg10 m g c),
    (h.1 c _ (Cert.KernelIdeal.Run.mem_uc Cert.KernelIdeal.main_arg11 (by decide))).trans (Cert.KernelIdeal.Run.W5_main_arg11 m g c),
    (h.1 c _ (Cert.KernelIdeal.Run.mem_uc Cert.KernelIdeal.main_arg12 (by decide))).trans (Cert.KernelIdeal.Run.W5_main_arg12 m g c),
    (h.1 c _ (Cert.KernelIdeal.Run.mem_uc Cert.KernelIdeal.main_arg13 (by decide))).trans (Cert.KernelIdeal.Run.W5_main_arg13 m g c),
    (h.1 c _ (Cert.KernelIdeal.Run.mem_uc Cert.KernelIdeal.main_arg14 (by decide))).trans (Cert.KernelIdeal.Run.W5_main_arg14 m g c),
    (h.1 c _ (Cert.KernelIdeal.Run.mem_uc Cert.KernelIdeal.main_arg15 (by decide))).trans (Cert.KernelIdeal.Run.W5_main_arg15 m g c),
    (h.1 c _ (Cert.KernelIdeal.Run.mem_uc Cert.KernelIdeal.main_arg16 (by decide))).trans (Cert.KernelIdeal.Run.W5_main_arg16 m g c)⟩, h.2⟩)
    (Cert.KernelIdeal.Run.runs m g (Cert.KernelIdeal.Run.words_in m g (inRange_KernelIdeal m hm)))

/-- So the reference, -/
theorem frame_ReferenceIdeal : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run (F := Ideal) m g)
theorem frame_ReferenceIdeal_in_range : Cert.quiescent_ReferenceIdeal_pre_in_range := fun m g _ =>
  (θ_run Cert.ReferenceIdeal.defs _ _).mono (fun r h => ⟨fun c => (h c).2.2, sem_eq_zero_of_no_sems (by decide) r.2⟩)
    (Cert.ReferenceIdeal.Value.run (F := Ideal) m g)

/-- The named constant is one two-hundredth. -/
theorem preserves : Cert.preserves_Kernel_KernelIdeal :=
  IdealRules.named_const.statement Cert.KernelIdeal.κ "inv_ctx" .f32 0x3BA3D70A#32 ((200⁻¹ : ℝ) : EReal) rfl

end Cert.Frames

end
-- ==== Proof.IdealArrays.lean ====
module

public import proofs.«01_k».proof.Proof.IdealWords

/-! What the two regions leave in their output arrays: the first region the scaled column sums and the sum of three rows, the
second region, at every grid point, the products of the hidden row with four blocks of rows of the long matrix. -/

@[expose] public section

set_option maxRecDepth 16384

noncomputable section

namespace Cert.KernelIdeal.Run

open Idealize.ShloMosaic Idealize.ShloMosaic.TcCoe Idealize.ShloMosaic.Tactic
open Cert.KernelIdeal.Gen Cert.KernelIdeal.Rows

variable {F : FTy → Type} [FloatOps F] [Named F]
variable (V : (c : Dev nD) → (b : Ref sig .tc) → Buf (Elt F) (((c : Thread nD τ)).loc b))

/-- The first region's two arrays. -/
theorem arrays0_6 (c : Dev nD) (G : Vec F S1x64 .f32) (hG : ∀ t, (outsAt0 V c t).1 = G) :
    (dat0 V c).arrAt 6 cfg0.N = (G : Vec F S1x64 .f32) := by
  refine (dat0 V c).arrAt_eq_of_after_last 6 t0_0 (by decide +kernel) _ fun j => ?_
  blk_simp
  rw [after0_6, hG]
theorem arrays0_7 (c : Dev nD) (G : Vec F S1x64 .f32) (hG : ∀ t, (outsAt0 V c t).2 = G) :
    (dat0 V c).arrAt 7 cfg0.N = (G : Vec F S1x64 .f32) := by
  refine (dat0 V c).arrAt_eq_of_after_last 7 t0_0 (by decide +kernel) _ fun j => ?_
  blk_simp
  rw [after0_7, hG]

/-- The second region's blocks stand at these block indices: the hidden row at zero, -/
theorem index1_0 (t : Fin cfg1.N) (a) : win1_0.index t a = 0 := by revert a; revert t; decide +kernel
/-- four blocks of the long matrix a grid point, -/
theorem index1_1 : ∀ t : Fin cfg1.N, win1_1.index t = ![4 * t.val + 0, 0] := by decide +kernel
theorem index1_2 : ∀ t : Fin cfg1.N, win1_2.index t = ![4 * t.val + 1, 0] := by decide +kernel
theorem index1_3 : ∀ t : Fin cfg1.N, win1_3.index t = ![4 * t.val + 2, 0] := by decide +kernel
theorem index1_4 : ∀ t : Fin cfg1.N, win1_4.index t = ![4 * t.val + 3, 0] := by decide +kernel
/-- and one block of each output. -/
theorem index1_5 : ∀ t : Fin cfg1.N, win1_5.index t = ![t.val, 0, 0] := by decide +kernel
theorem index1_6 : ∀ t : Fin cfg1.N, win1_6.index t = ![t.val, 0, 0] := by decide +kernel
theorem index1_7 : ∀ t : Fin cfg1.N, win1_7.index t = ![t.val, 0, 0] := by decide +kernel
theorem index1_8 : ∀ t : Fin cfg1.N, win1_8.index t = ![t.val, 0, 0] := by decide +kernel

/-- Block `n` of ten thousand rows of the long matrix. -/
def rowsBlock (T : Vec F S1000000x64 .f32) (n : ℕ) (hn : n < 100) : Vec F S10000x64 .f32 := fun z =>
  T (ix2 ⟨n * 10000 + (z 0).val, by have := (z 0).isLt; simp only [S10000x64] at this; change (z 0).val < 10000 at this; omega⟩ ⟨(z 1).val, (z 1).isLt⟩)

theorem iblk1_0 (c : Dev nD) (t : Fin cfg1.N) : (iblk1 V c 0 t : Vec F S1x64 .f32) = V c main_v17 := by
  funext y; blk_ext [iblk1, index1_0]
theorem point_lt (t : Fin cfg1.N) : t.val < 25 := t.isLt
theorem iblk1_1 (c : Dev nD) (t : Fin cfg1.N) : (iblk1 V c 1 t : Vec F S10000x64 .f32) = rowsBlock (V c main_arg15) (4 * t.val + 0) (by have := point_lt t; omega) := by
  funext y; unfold rowsBlock; blk_ext [iblk1, index1_1]
theorem iblk1_2 (c : Dev nD) (t : Fin cfg1.N) : (iblk1 V c 2 t : Vec F S10000x64 .f32) = rowsBlock (V c main_arg15) (4 * t.val + 1) (by have := point_lt t; omega) := by
  funext y; unfold rowsBlock; blk_ext [iblk1, index1_2]
theorem iblk1_3 (c : Dev nD) (t : Fin cfg1.N) : (iblk1 V c 3 t : Vec F S10000x64 .f32) = rowsBlock (V c main_arg15) (4 * t.val + 2) (by have := point_lt t; omega) := by
  funext y; unfold rowsBlock; blk_ext [iblk1, index1_3]
theorem iblk1_4 (c : Dev nD) (t : Fin cfg1.N) : (iblk1 V c 4 t : Vec F S10000x64 .f32) = rowsBlock (V c main_arg15) (4 * t.val + 3) (by have := point_lt t; omega) := by
  funext y; unfold rowsBlock; blk_ext [iblk1, index1_4]

/-- The four payloads are one function: the product of the hidden row with a block of rows. -/
theorem pay3_eq (h : Vec F S1x64 .f32) (B : Vec F S10000x64 .f32) : k1_pay3 h B = k1_pay2 h B := rfl
theorem pay4_eq (h : Vec F S1x64 .f32) (B : Vec F S10000x64 .f32) : k1_pay4 h B = k1_pay2 h B := rfl
theorem pay5_eq (h : Vec F S1x64 .f32) (B : Vec F S10000x64 .f32) : k1_pay1 (k1_pay5 h B) = k1_pay2 h B := rfl

/-- Output `k` of the second region: at each grid point the product with block `4 i + k`. -/
def longPart (h : Vec F S1x64 .f32) (T : Vec F S1000000x64 .f32) (k : ℕ) (hk : k < 4) : Vec F S25x1x10000 .f32 := fun i =>
  k1_pay2 h (rowsBlock T (4 * (i 0).val + k) (by have : (i 0).val < 25 := (i 0).isLt; omega)) (ix3 0 0 ⟨(i 2).val, (i 2).isLt⟩)

theorem out1_5_eq (x0 : Vec F S1x64 .f32) (x1 x2 x3 x4 : Vec F S10000x64 .f32) : out1_5 x0 x1 x2 x3 x4 = k1_pay2 x0 x1 := by
  unfold out1_5; frame_out
theorem out1_6_eq (x0 : Vec F S1x64 .f32) (x1 x2 x3 x4 : Vec F S10000x64 .f32) : out1_6 x0 x1 x2 x3 x4 = k1_pay2 x0 x2 := by
  unfold out1_6; frame_out; rfl
theorem out1_7_eq (x0 : Vec F S1x64 .f32) (x1 x2 x3 x4 : Vec F S10000x64 .f32) : out1_7 x0 x1 x2 x3 x4 = k1_pay2 x0 x3 := by
  unfold out1_7; frame_out; rfl
theorem out1_8_eq (x0 : Vec F S1x64 .f32) (x1 x2 x3 x4 : Vec F S10000x64 .f32) : out1_8 x0 x1 x2 x3 x4 = k1_pay2 x0 x4 := by
  unfold out1_8; frame_out; rfl

/-- That output read at a place of the block a grid point writes. -/
theorem longPart_at (h : Vec F S1x64 .f32) (T : Vec F S1000000x64 .f32) (k : ℕ) (hk : k < 4) (n : ℕ) (hn : 4 * n + k < 100) (i : S25x1x10000.Idx)
    (y : S1x1x10000.Idx) (h0 : (i 0).val = n) (h2 : (i 2).val = (y 2).val) :
    k1_pay2 h (rowsBlock T (4 * n + k) hn) y = longPart h T k hk i := by
  subst h0
  unfold longPart
  congr 1
  funext a
  have y0 : (y 0).val < 1 := (y 0).isLt
  have y1 : (y 1).val < 1 := (y 1).isLt
  fin_cases a
  · exact Fin.ext (by show (y 0).val = 0; omega)
  · exact Fin.ext (by show (y 1).val = 0; omega)
  · exact Fin.ext h2.symm

theorem arrays1_5 (c : Dev nD) : (dat1 V c).arrAt 5 cfg1.N = longPart (V c main_v17) (V c main_arg15) 0 (by decide) := by
  refine (dat1 V c).arrAt_eq_of_covers 5 _ (by decide +kernel) fun t hf y => ?_
  blk_simp
  rw [after1_5, out1_5_eq, iblk1_0, iblk1_1]
  refine longPart_at _ _ _ _ _ _ _ _ ?_ ?_
  · blk_simp [index1_5]
  · blk_simp [index1_5]
theorem arrays1_6 (c : Dev nD) : (dat1 V c).arrAt 6 cfg1.N = longPart (V c main_v17) (V c main_arg15) 1 (by decide) := by
  refine (dat1 V c).arrAt_eq_of_covers 6 _ (by decide +kernel) fun t hf y => ?_
  blk_simp
  rw [after1_6, out1_6_eq, iblk1_0, iblk1_2]
  refine longPart_at _ _ _ _ _ _ _ _ ?_ ?_
  · blk_simp [index1_6]
  · blk_simp [index1_6]
theorem arrays1_7 (c : Dev nD) : (dat1 V c).arrAt 7 cfg1.N = longPart (V c main_v17) (V c main_arg15) 2 (by decide) := by
  refine (dat1 V c).arrAt_eq_of_covers 7 _ (by decide +kernel) fun t hf y => ?_
  blk_simp
  rw [after1_7, out1_7_eq, iblk1_0, iblk1_3]
  refine longPart_at _ _ _ _ _ _ _ _ ?_ ?_
  · blk_simp [index1_7]
  · blk_simp [index1_7]
theorem arrays1_8 (c : Dev nD) : (dat1 V c).arrAt 8 cfg1.N = longPart (V c main_v17) (V c main_arg15) 3 (by decide) := by
  refine (dat1 V c).arrAt_eq_of_covers 8 _ (by decide +kernel) fun t hf y => ?_
  blk_simp
  rw [after1_8, out1_8_eq, iblk1_0, iblk1_4]
  refine longPart_at _ _ _ _ _ _ _ _ ?_ ?_
  · blk_simp [index1_8]
  · blk_simp [index1_8]

end Cert.KernelIdeal.Run

end
-- ==== Proof.IdealResults.lean ====
module

public import proofs.«01_k».proof.Proof.IdealArrays
public import proofs.«01_k».proof.Proof.RefRun

/-! What the kernel leaves in its two results, as functions of its arguments: the first region's two rows, through the same
hidden layer as the reference's, and the second region's products laid end to end. -/

@[expose] public section

set_option maxRecDepth 16384

noncomputable section

namespace Cert.KernelIdeal.Run

open Idealize.ShloMosaic Idealize.ShloMosaic.TcCoe Idealize.ShloMosaic.Tactic
open Cert.KernelIdeal.Gen Cert.KernelIdeal.Rows

variable {F : FTy → Type} [FloatOps F] [Named F]

variable (V : Valuation τ sig (Elt F))

/-- The hidden layer from the first region's two rows. -/
def hiddenK (r0 r1 : Vec F S1x64 .f32) (a4 : Vec F S3 .f32) (a9 : Vec F S64x3 .f32) (a10 : Vec F S64 .f32) (a11 : Vec F S64x128 .f32) (a12 : Vec F S64 .f32) : Vec F S64 .f32 :=
  Cert.ReferenceIdeal.Value.hidden (shapeCast S64 r0 shapeCasts_S1x64_S64) (Cert.ReferenceIdeal.Value.restOf (shapeCast S64 r1 shapeCasts_S1x64_S64) a9 a4 a10) a11 a12

/-- What the second stretch of host operations leaves: the scalar result, -/
theorem host1_v16 : StableHlo.after hostOps1 V (Proc.devRef .tc main_v16)
    = Cert.ReferenceIdeal.Value.scalarOf (hiddenK (V (Proc.devRef .tc main_v4_0)) (V (Proc.devRef .tc main_v4_1)) (V (Proc.devRef .tc main_arg4)) (V (Proc.devRef .tc main_arg9))
      (V (Proc.devRef .tc main_arg10)) (V (Proc.devRef .tc main_arg11)) (V (Proc.devRef .tc main_arg12))) (V (Proc.devRef .tc main_arg13)) (V (Proc.devRef .tc main_arg14)) := by
  after_results_simp
  rfl
/-- and the hidden row. -/
theorem host1_v17 : StableHlo.after hostOps1 V (Proc.devRef .tc main_v17)
    = shapeCast S1x64 (hiddenK (V (Proc.devRef .tc main_v4_0)) (V (Proc.devRef .tc main_v4_1)) (V (Proc.devRef .tc main_arg4)) (V (Proc.devRef .tc main_arg9))
      (V (Proc.devRef .tc main_arg10)) (V (Proc.devRef .tc main_arg11)) (V (Proc.devRef .tc main_arg12))) shapeCasts_S64_S1x64 := by
  after_results_simp
  rfl

/-- The four arrays of products laid end to end: for each grid point its four blocks one after another. -/
def layOut (p0 p1 p2 p3 : Vec F S25x1x10000 .f32) : Vec F S1000000 .f32 :=
  shapeCast S1000000 (concatenate S25x4x10000 1
    [⟨S25x1x10000, broadcastInDim S25x1x10000 ![0, 2] bcast_S25x10000_S25x1x10000_0_2 (shapeCast S25x10000 p0 shapeCasts_S25x1x10000_S25x10000)⟩,
     ⟨S25x1x10000, broadcastInDim S25x1x10000 ![0, 2] bcast_S25x10000_S25x1x10000_0_2 (shapeCast S25x10000 p1 shapeCasts_S25x1x10000_S25x10000)⟩,
     ⟨S25x1x10000, broadcastInDim S25x1x10000 ![0, 2] bcast_S25x10000_S25x1x10000_0_2 (shapeCast S25x10000 p2 shapeCasts_S25x1x10000_S25x10000)⟩,
     ⟨S25x1x10000, broadcastInDim S25x1x10000 ![0, 2] bcast_S25x10000_S25x1x10000_0_2 (shapeCast S25x10000 p3 shapeCasts_S25x1x10000_S25x10000)⟩]
    concatenates_S25x1x10000_S25x1x10000_S25x1x10000_S25x1x10000_S25x4x10000_d1) shapeCasts_S25x4x10000_S1000000

/-- What the third stretch leaves: the long result. -/
theorem host2_v29 : StableHlo.after hostOps2 V (Proc.devRef .tc main_v29)
    = addf (layOut (V (Proc.devRef .tc main_v18_0)) (V (Proc.devRef .tc main_v18_1)) (V (Proc.devRef .tc main_v18_2)) (V (Proc.devRef .tc main_v18_3)))
      (V (Proc.devRef .tc main_arg16) : Vec F S1000000 .f32) := by
  after_results_simp
  rfl

variable (m : (ℓ : Loc nD τ sig) → Buf (Elt F) ℓ) (ρ : Dev nD → PrngReg)

/-- Equal words and tables give equal rows. -/
theorem meanRow_congr {x x' : Vec F S200 .i32} (e : x = x') (hx : ∀ i, (x i).toNat < 1000000) (hx' : ∀ i, (x' i).toNat < 1000000)
    {T T' : Vec F S1000000x64 .f32} (eT : T = T') : meanRow x hx T = meanRow x' hx' T' := by
  subst e; subst eT; rfl
theorem threeRows_congr {x x' : Vec F S3 .i32} (e : x = x') {x3 x3' x4 x4' : Vec F S2048x64 .f32} {x5 x5' : Vec F S64x64 .f32} (e3 : x3 = x3') (e4 : x4 = x4') (e5 : x5 = x5')
    (h3 : k0_chk3 (idx0 x)) (h4 : k0_chk4 (idx1 x)) (h5 : k0_chk5 (idx2 x)) (h3' : k0_chk3 (idx0 x')) (h4' : k0_chk4 (idx1 x')) (h5' : k0_chk5 (idx2 x')) :
    threeRows x x3 x4 x5 h3 h4 h5 = threeRows x' x3' x4' x5' h3' h4' h5' := by
  subst e; subst e3; subst e4; subst e5; rfl

/-- The three words are within their tables' rows. -/
theorem chk3_in (h : InRange m) (c : Dev nD) : k0_chk3 (idx0 (V1 m ρ c main_v3 : Vec F S3 .i32)) := by rw [idx0_eq]; exact chk3_of _ (h c).2.1
theorem chk4_in (h : InRange m) (c : Dev nD) : k0_chk4 (idx1 (V1 m ρ c main_v3 : Vec F S3 .i32)) := by rw [idx1_eq]; exact chk4_of _ (h c).2.2.1
theorem chk5_in (h : InRange m) (c : Dev nD) : k0_chk5 (idx2 (V1 m ρ c main_v3 : Vec F S3 .i32)) := by rw [idx2_eq]; exact chk5_of _ (h c).2.2.2

/-- The first region leaves the mean row -/
theorem W2_v4_0 (h : InRange m) (c : Dev nD) : W2 m ρ c (Proc.devRef .tc main_v4_0)
    = meanRow (m ((c : Thread nD τ).loc main_arg0)) (h c).1 (m ((c : Thread nD τ).loc main_arg5)) :=
  (W2_arr m ρ c 6).trans (arrays0_6 (V1 m ρ) c _ fun t => by
    rw [outsAt0_eq _ _ _ (words_in m ρ h c t)]
    exact meanRow_congr ((iblk0_0 _ c t).trans (V1_arg0 m ρ c)) _ _ (W1_args m ρ c main_arg5 (by decide)))
/-- and the sum of the three rows. -/
theorem W2_v4_1 (h : InRange m) (c : Dev nD) : W2 m ρ c (Proc.devRef .tc main_v4_1)
    = threeRows (V1 m ρ c main_v3) (m ((c : Thread nD τ).loc main_arg6)) (m ((c : Thread nD τ).loc main_arg7)) (m ((c : Thread nD τ).loc main_arg8))
      (chk3_in m ρ h c) (chk4_in m ρ h c) (chk5_in m ρ h c) :=
  (W2_arr m ρ c 7).trans (arrays0_7 (V1 m ρ) c _ fun t => by
    rw [outsAt0_eq _ _ _ (words_in m ρ h c t)]
    exact threeRows_congr (iblk0_1 _ c t) ((iblk0_3 _ c t).trans (W1_args m ρ c main_arg6 (by decide))) ((iblk0_4 _ c t).trans (W1_args m ρ c main_arg7 (by decide)))
      ((iblk0_5 _ c t).trans (W1_args m ρ c main_arg8 (by decide))) _ _ _ _ _ _)

/-- The kernel's hidden layer of the arguments in a core's memory. -/
abbrev hiddenM (h : InRange m) (c : Dev nD) : Vec F S64 .f32 :=
  hiddenK (meanRow (m ((c : Thread nD τ).loc main_arg0)) (h c).1 (m ((c : Thread nD τ).loc main_arg5)))
    (threeRows (V1 m ρ c main_v3) (m ((c : Thread nD τ).loc main_arg6)) (m ((c : Thread nD τ).loc main_arg7)) (m ((c : Thread nD τ).loc main_arg8))
      (chk3_in m ρ h c) (chk4_in m ρ h c) (chk5_in m ρ h c))
    (m ((c : Thread nD τ).loc main_arg4)) (m ((c : Thread nD τ).loc main_arg9)) (m ((c : Thread nD τ).loc main_arg10)) (m ((c : Thread nD τ).loc main_arg11)) (m ((c : Thread nD τ).loc main_arg12))

theorem W3_v17 (h : InRange m) (c : Dev nD) : W3 m ρ c (Proc.devRef .tc main_v17) = shapeCast S1x64 (hiddenM m ρ h c) shapeCasts_S64_S1x64 := by
  rw [W3, host1_v17, W2_v4_0 m ρ h c, W2_v4_1 m ρ h c, W2_args m ρ c main_arg4 (by decide), W2_args m ρ c main_arg9 (by decide),
    W2_args m ρ c main_arg10 (by decide), W2_args m ρ c main_arg11 (by decide), W2_args m ρ c main_arg12 (by decide)]

/-- At the end the scalar result, -/
theorem W5_v16 (h : InRange m) (c : Dev nD) : W5 m ρ c (Proc.devRef .tc main_v16)
    = Cert.ReferenceIdeal.Value.scalarOf (hiddenM m ρ h c) (m ((c : Thread nD τ).loc main_arg13)) (m ((c : Thread nD τ).loc main_arg14)) := by
  rw [W5_of m ρ c main_v16 (by decide), W4_of m ρ c main_v16 (by decide), W3, host1_v16, W2_v4_0 m ρ h c, W2_v4_1 m ρ h c, W2_args m ρ c main_arg4 (by decide), W2_args m ρ c main_arg9 (by decide),
    W2_args m ρ c main_arg10 (by decide), W2_args m ρ c main_arg11 (by decide), W2_args m ρ c main_arg12 (by decide),
    W2_args m ρ c main_arg13 (by decide), W2_args m ρ c main_arg14 (by decide)]

theorem W4_v18_0 (h : InRange m) (c : Dev nD) : W4 m ρ c (Proc.devRef .tc main_v18_0)
    = longPart (shapeCast S1x64 (hiddenM m ρ h c) shapeCasts_S64_S1x64) (m ((c : Thread nD τ).loc main_arg15)) 0 (by decide) :=
  ((W4_arr m ρ c 5).trans (arrays1_5 (V3 m ρ) c)).trans (by rw [show V3 m ρ c main_v17 = _ from W3_v17 m ρ h c, show V3 m ρ c main_arg15 = _ from W3_args m ρ c main_arg15 (by decide)])
theorem W4_v18_1 (h : InRange m) (c : Dev nD) : W4 m ρ c (Proc.devRef .tc main_v18_1)
    = longPart (shapeCast S1x64 (hiddenM m ρ h c) shapeCasts_S64_S1x64) (m ((c : Thread nD τ).loc main_arg15)) 1 (by decide) :=
  ((W4_arr m ρ c 6).trans (arrays1_6 (V3 m ρ) c)).trans (by rw [show V3 m ρ c main_v17 = _ from W3_v17 m ρ h c, show V3 m ρ c main_arg15 = _ from W3_args m ρ c main_arg15 (by decide)])
theorem W4_v18_2 (h : InRange m) (c : Dev nD) : W4 m ρ c (Proc.devRef .tc main_v18_2)
    = longPart (shapeCast S1x64 (hiddenM m ρ h c) shapeCasts_S64_S1x64) (m ((c : Thread nD τ).loc main_arg15)) 2 (by decide) :=
  ((W4_arr m ρ c 7).trans (arrays1_7 (V3 m ρ) c)).trans (by rw [show V3 m ρ c main_v17 = _ from W3_v17 m ρ h c, show V3 m ρ c main_arg15 = _ from W3_args m ρ c main_arg15 (by decide)])
theorem W4_v18_3 (h : InRange m) (c : Dev nD) : W4 m ρ c (Proc.devRef .tc main_v18_3)
    = longPart (shapeCast S1x64 (hiddenM m ρ h c) shapeCasts_S64_S1x64) (m ((c : Thread nD τ).loc main_arg15)) 3 (by decide) :=
  ((W4_arr m ρ c 8).trans (arrays1_8 (V3 m ρ) c)).trans (by rw [show V3 m ρ c main_v17 = _ from W3_v17 m ρ h c, show V3 m ρ c main_arg15 = _ from W3_args m ρ c main_arg15 (by decide)])

/-- and the long one. -/
theorem W5_v29 (h : InRange m) (c : Dev nD) : W5 m ρ c (Proc.devRef .tc main_v29)
    = addf (layOut (longPart (shapeCast S1x64 (hiddenM m ρ h c) shapeCasts_S64_S1x64) (m ((c : Thread nD τ).loc main_arg15)) 0 (by decide))
        (longPart (shapeCast S1x64 (hiddenM m ρ h c) shapeCasts_S64_S1x64) (m ((c : Thread nD τ).loc main_arg15)) 1 (by decide))
        (longPart (shapeCast S1x64 (hiddenM m ρ h c) shapeCasts_S64_S1x64) (m ((c : Thread nD τ).loc main_arg15)) 2 (by decide))
        (longPart (shapeCast S1x64 (hiddenM m ρ h c) shapeCasts_S64_S1x64) (m ((c : Thread nD τ).loc main_arg15)) 3 (by decide)))
      (m ((c : Thread nD τ).loc main_arg16) : Vec F S1000000 .f32) := by
  rw [W5, host2_v29, W4_v18_0 m ρ h c, W4_v18_1 m ρ h c, W4_v18_2 m ρ h c, W4_v18_3 m ρ h c, W4_args m ρ c main_arg16 (by decide)]

end Cert.KernelIdeal.Run

end
-- ==== Proof.TokenRows.lean ====
module

public import proofs.«01_k».proof.Proof.IdealRows
public import proofs.«01_k».proof.Proof.RefRun
public import Idealize.ShloMosaic.Lib.ReduceAll
public import Idealize.ShloMosaic.Lib.Affine
public import Idealize.ShloMosaic.Lib.Pointwise
public import Idealize.ShloMosaic.Lib.Routing.Ops
public import Idealize.ShloMosaic.Lib.DynamicIndex

/-! The mean of the token rows: the reference takes the rows through a wrapped and masked lookup and divides their column sums by
two hundred, the kernel gathers the rows one by one and multiplies the sums by the exact reciprocal. Where every token word is in
range the two are equal. -/

@[expose] public section

noncomputable section

namespace Cert.Agree

open Idealize.ShloMosaic Idealize.ShloMosaic.TcCoe Idealize.ShloMosaic.Tactic
open Cert.KernelIdeal Cert.KernelIdeal.Gen Cert.KernelIdeal.Rows
open Cert.ReferenceIdeal.Gen

section Words

/-- A word below `2 ^ 31` read signed. -/
theorem toInt_small (w : BitVec 32) (h : w.toNat < 2 ^ 31) : w.toInt = (w.toNat : Int) := by
  rw [BitVec.toInt_eq_toNat_cond, if_pos (by omega)]

/-- The reference's wrapped token words are the words themselves, where none is negative. -/
theorem wrapTokens_apply (x : IVec S200 32) (hx : ∀ i, (x i).toNat < 1000000) (a : Fin 200) (b : Fin 1) :
    Cert.ReferenceIdeal.Value.wrapTokens x (ix2 a b) = x (ix1 a) := by
  unfold Cert.ReferenceIdeal.Value.wrapTokens
  have h : ∀ d, select (cmpi .slt x (constantI S200 32 0#32)) d x (ix1 a) = x (ix1 a) := fun d =>
    select_slt_zero_of_nonneg x d x (ix1 a) (by rw [toInt_small _ (by have := hx (ix1 a); omega)]; omega)
  refine Eq.trans ?_ (h (addi x (broadcastInDim S200 ![] bcast_S_S200 (constantI S_ 32 1000000#32))))
  pointwise

/-- A word that names a row of the table passes the reference's two comparisons. -/
theorem passes (w : BitVec 32) (h : w.toNat < 1000000) : IntOp.andi (IntOp.cmpi .sge w 0#32) (IntOp.cmpi .sle w 999999#32) = 1#1 := by
  have e : w.toInt = (w.toNat : Int) := toInt_small w (by omega)
  have h1 : IntOp.cmpi .sge w 0#32 = 1#1 := IntOp.cmpi_sge.2 (by rw [e]; show (0 : Int) ≤ _; omega)
  have h2 : IntOp.cmpi .sle w 999999#32 = 1#1 := IntOp.cmpi_sle.2 (by rw [e]; show _ ≤ (999999 : Int); omega)
  rw [h1, h2]; decide

/-- So every token is among the named ones. -/
theorem named_one (x : IVec S200 32) (hx : ∀ i, (x i).toNat < 1000000) (j) :
    Cert.ReferenceIdeal.Value.named (Cert.ReferenceIdeal.Value.wrapTokens x) j = 1#1 := by
  unfold Cert.ReferenceIdeal.Value.named
  refine Host.reduce_andi_one _ _ _ _ _ rfl fun i => ?_
  idx_vars i
  refine Eq.trans ?_ (passes (x (ix1 i0)) (hx _))
  show IntOp.andi (IntOp.cmpi .sge (Cert.ReferenceIdeal.Value.wrapTokens x (ix2 i0 i1)) _) (IntOp.cmpi .sle (Cert.ReferenceIdeal.Value.wrapTokens x (ix2 i0 i1)) _) = _
  rw [wrapTokens_apply x hx]
  rfl

end Words

variable {F : FTy → Type} [FloatOps F]

/-- The reference's token rows are the rows the words name. -/
theorem tokenRows_eq (x : IVec S200 32) (hx : ∀ i, (x i).toNat < 1000000) (T : FVec F S1000000x64 .f32) :
    Cert.ReferenceIdeal.Value.tokenRows x T = gathered (F := F) x hx T := by
  funext j
  idx_vars j
  have hg : Host.gather Cert.ReferenceIdeal.gather_S1000000x64_S200x1_S200x64_1_0_n_n_0_1_164 T (Cert.ReferenceIdeal.Value.wrapTokens x) (ix2 j0 j1)
      = T (ix2 ⟨(x (ix1 j0)).toNat, hx _⟩ j1) :=
    Routing.gather_row _ rfl rfl rfl rfl rfl T _ j0 j1 ⟨(x (ix1 j0)).toNat, hx _⟩
      ((wrapTokens_apply x hx j0 0).trans (by rw [BitVec.ofNat_toNat, BitVec.setWidth_eq])) (by decide)
  have hm : broadcastInDim S200x64 ![0] bcast_S200_S200x64_0 (Cert.ReferenceIdeal.Value.named (Cert.ReferenceIdeal.Value.wrapTokens x)) (ix2 j0 j1) = 1#1 :=
    named_one x hx _
  unfold Cert.ReferenceIdeal.Value.tokenRows
  show (if _ = 1#1 then _ else _) = _
  rw [hm, if_pos rfl, hg]
  unfold gathered
  congr 1
  funext a; fin_cases a
  · exact Fin.ext (congrArg (fun i => (x i).toNat) (by funext a; fin_cases a; rfl))
  · rfl

/-- Two hundred as a constant of the reference. -/
theorem twoHundred : Ideal.ofBits .f32 0x43480000#32 = ((200 : ℝ) : EReal) := by
  simp [Ideal.ofBits, Ideal.ieee, -EReal.coe_mul]; norm_num

/-- The kernel's mean row is the reference's mean. -/
theorem mean_eq (x : IVec S200 32) (hx : ∀ i, (x i).toNat < 1000000) (T : FVec Ideal S1000000x64 .f32) :
    shapeCast S64 (meanRow (F := Ideal) x hx T) Cert.KernelIdeal.Gen.shapeCasts_S1x64_S64 = Cert.ReferenceIdeal.Value.tokenMean (F := Ideal) x T := by
  unfold meanRow Cert.ReferenceIdeal.Value.tokenMean
  rw [tokenRows_eq x hx T]
  generalize gathered (F := Ideal) x hx T = G
  funext j
  idx_vars j
  pointwise [k0_pay1]
  rw [twoHundred, Ideal.div_coe (by norm_num : (200 : ℝ) ≠ 0), IdealRules.named_const.ideal_named_scalar _ _ _ ((200⁻¹ : ℝ) : EReal) rfl, one_div]

end Cert.Agree

end
-- ==== Proof.ThreeRows.lean ====
module

public import proofs.«01_k».proof.Proof.IdealRows
public import proofs.«01_k».proof.Proof.RefRun
public import Idealize.ShloMosaic.Lib.Pointwise
public import Idealize.ShloMosaic.Lib.DynamicIndex

/-! The sum of the two node rows and the language row: the reference slices each row at a wrapped and clamped start, the kernel
loads it at the word itself. Where the words are in range the two are equal. -/

@[expose] public section

noncomputable section

namespace Cert.Agree

open Idealize.ShloMosaic Idealize.ShloMosaic.TcCoe Idealize.ShloMosaic.Tactic
open Cert.KernelIdeal Cert.KernelIdeal.Gen Cert.KernelIdeal.Rows

/-- A wrapped word that is not negative, read signed, is its number. -/
theorem wrap_toInt (bound : BitVec 32) (w : IVec S_ 32) (i : S_.Idx) (h : (w i).toNat < 2 ^ 31) :
    (Cert.ReferenceIdeal.Value.wrap bound w i).toInt = ((w i).toNat : Int) := by
  have e : (w i).toInt = ((w i).toNat : Int) := by rw [BitVec.toInt_eq_toNat_cond, if_pos (by omega)]
  unfold Cert.ReferenceIdeal.Value.wrap
  rw [select_slt_zero_of_nonneg w _ w i (by rw [e]; omega), e]

theorem col0_toInt (i : S_.Idx) : (Cert.ReferenceIdeal.Value.col0 i).toInt = 0 :=
  (wrap_toInt _ _ i (by show (0#32).toNat < _; decide)).trans rfl

variable {F : FTy → Type} [FloatOps F]

theorem first_eq : Shape.Idx.first Cert.ReferenceIdeal.Gen.h_S_ = ix0 := by funext a; exact a.elim0

/-- A row of a node table in the reference, at a word in range. -/
theorem nodeRow_apply (w : IVec S_ 32) (T : FVec F S2048x64 .f32) (h : (w ix0).toNat < 2048) (j : Fin 64) :
    Cert.ReferenceIdeal.Value.nodeRow w T (ix1 j) = T (ix2 ⟨(w ix0).toNat, h⟩ j) := by
  unfold Cert.ReferenceIdeal.Value.nodeRow
  rw [Host.dynamicSlice_eq_extractStridedSlice S1x64 T _ ![(w ix0).toNat, 0] _ ⟨rfl, fun a => by
      fin_cases a
      · show (w ix0).toNat + 1 ≤ 2048; omega
      · show 0 + 64 ≤ 64; omega⟩
    (fun a => by
      fin_cases a
      · rw [first_eq]; exact wrap_toInt _ w ix0 (by omega)
      · exact col0_toInt (Shape.Idx.first Cert.ReferenceIdeal.Gen.h_S_))]
  pointwise

/-- A row of the language table in the reference, at a word in range. -/
theorem langRow_apply (w : IVec S_ 32) (T : FVec F S64x64 .f32) (h : (w ix0).toNat < 64) (j : Fin 64) :
    Cert.ReferenceIdeal.Value.langRow w T (ix1 j) = T (ix2 ⟨(w ix0).toNat, h⟩ j) := by
  unfold Cert.ReferenceIdeal.Value.langRow
  rw [Host.dynamicSlice_eq_extractStridedSlice S1x64 T _ ![(w ix0).toNat, 0] _ ⟨rfl, fun a => by
      fin_cases a
      · show (w ix0).toNat + 1 ≤ 64; omega
      · show 0 + 64 ≤ 64; omega⟩
    (fun a => by
      fin_cases a
      · rw [first_eq]; exact wrap_toInt _ w ix0 (by omega)
      · exact col0_toInt (Shape.Idx.first Cert.ReferenceIdeal.Gen.h_S_))]
  pointwise

/-- The kernel's rows, read at a column. -/
theorem row3_apply (x1 : Vec F S3 .i32) (T : Vec F S2048x64 .f32) (h3 : k0_chk3 (idx0 x1)) (n : ℕ) (hn : n < 2048) (e : (idx0 x1).toNat = n) (j : Fin 64) :
    row3 x1 T h3 (ix2 0 j) = T (ix2 ⟨n, hn⟩ j) := by
  subst e
  unfold row3
  congr 1
  funext a; fin_cases a
  · exact Fin.ext (by show (idx0 x1).toNat + 1 * 0 = (idx0 x1).toNat; omega)
  · exact Fin.ext (by show 0 + 1 * j.val = j.val; omega)
theorem row4_apply (x1 : Vec F S3 .i32) (T : Vec F S2048x64 .f32) (h4 : k0_chk4 (idx1 x1)) (n : ℕ) (hn : n < 2048) (e : (idx1 x1).toNat = n) (j : Fin 64) :
    row4 x1 T h4 (ix2 0 j) = T (ix2 ⟨n, hn⟩ j) := by
  subst e
  unfold row4
  congr 1
  funext a; fin_cases a
  · exact Fin.ext (by show (idx1 x1).toNat + 1 * 0 = (idx1 x1).toNat; omega)
  · exact Fin.ext (by show 0 + 1 * j.val = j.val; omega)
theorem row5_apply (x1 : Vec F S3 .i32) (T : Vec F S64x64 .f32) (h5 : k0_chk5 (idx2 x1)) (n : ℕ) (hn : n < 64) (e : (idx2 x1).toNat = n) (j : Fin 64) :
    row5 x1 T h5 (ix2 0 j) = T (ix2 ⟨n, hn⟩ j) := by
  subst e
  unfold row5
  congr 1
  funext a; fin_cases a
  · exact Fin.ext (by show (idx2 x1).toNat + 1 * 0 = (idx2 x1).toNat; omega)
  · exact Fin.ext (by show 0 + 1 * j.val = j.val; omega)

/-- The kernel's sum of three rows is the reference's. -/
theorem rows_eq (a1 a2 a3 : IVec S_ 32) (x1 : Vec F S3 .i32) (T6 T7 : FVec F S2048x64 .f32) (T8 : FVec F S64x64 .f32)
    (h3 : k0_chk3 (idx0 x1)) (h4 : k0_chk4 (idx1 x1)) (h5 : k0_chk5 (idx2 x1))
    (e1 : idx0 x1 = a1 ix0) (e2 : idx1 x1 = a2 ix0) (e3 : idx2 x1 = a3 ix0)
    (h1 : (a1 ix0).toNat < 2048) (h2 : (a2 ix0).toNat < 2048) (h8 : (a3 ix0).toNat < 64) :
    shapeCast S64 (threeRows x1 T6 T7 T8 h3 h4 h5) shapeCasts_S1x64_S64
      = addf (addf (Cert.ReferenceIdeal.Value.nodeRow a1 T6) (Cert.ReferenceIdeal.Value.nodeRow a2 T7)) (Cert.ReferenceIdeal.Value.langRow a3 T8) := by
  funext j
  idx_vars j
  show _ = FloatOps.addf (FloatOps.addf (Cert.ReferenceIdeal.Value.nodeRow a1 T6 (ix1 j0)) (Cert.ReferenceIdeal.Value.nodeRow a2 T7 (ix1 j0)))
    (Cert.ReferenceIdeal.Value.langRow a3 T8 (ix1 j0))
  rw [nodeRow_apply a1 T6 h1, nodeRow_apply a2 T7 h2, langRow_apply a3 T8 h8]
  refine Eq.trans (b := FloatOps.addf (FloatOps.addf (row3 x1 T6 h3 (ix2 0 j0)) (row4 x1 T7 h4 (ix2 0 j0))) (row5 x1 T8 h5 (ix2 0 j0))) ?_ ?_
  · unfold threeRows k0_pay2
    pointwise
  · rw [row3_apply x1 T6 h3 _ h1 (by rw [e1]), row4_apply x1 T7 h4 _ h2 (by rw [e2]), row5_apply x1 T8 h5 _ h8 (by rw [e3])]

end Cert.Agree

end
-- ==== Proof.LongOut.lean ====
module

public import proofs.«01_k».proof.Proof.IdealResults
public import Idealize.ShloMosaic.Lib.Pointwise

/-! The long result: the kernel multiplies the hidden row with a hundred blocks of rows and lays the products end to end, the
reference multiplies the whole matrix with the hidden vector. -/

@[expose] public section

noncomputable section

namespace Cert.Agree

open Idealize.ShloMosaic Idealize.ShloMosaic.TcCoe Idealize.ShloMosaic.Tactic
open Cert.KernelIdeal Cert.KernelIdeal.Gen Cert.KernelIdeal.Rows Cert.KernelIdeal.Run

variable {F : FTy → Type} [FloatOps F]

/-- The four arrays laid end to end, read at a place: block `4 i + k` is array `k`'s at grid point `i`. -/
theorem layOut_apply (p0 p1 p2 p3 : Vec F S25x1x10000 .f32) (v : Fin 1000000) (p : Vec F S25x1x10000 .f32)
    (hp : p = if v.val / 10000 % 4 = 0 then p0 else if v.val / 10000 % 4 = 1 then p1 else if v.val / 10000 % 4 = 2 then p2 else p3) :
    layOut p0 p1 p2 p3 (ix1 v) = p (ix3 ⟨v.val / 40000, by omega⟩ 0 ⟨v.val % 10000, by omega⟩) := by
  unfold layOut
  pointwise
  subst hp
  obtain hk | hk | hk | hk : v.val / 10000 % 4 = 0 ∨ v.val / 10000 % 4 = 1 ∨ v.val / 10000 % 4 = 2 ∨ v.val / 10000 % 4 = 3 := by omega
  all_goals simp [hk]

/-- The array of products with every fourth block, by the block it begins at. -/
theorem longPart_cases (h : Vec F S1x64 .f32) (T : Vec F S1000000x64 .f32) (k : ℕ) (hk : k < 4) :
    longPart h T k hk = if k = 0 then longPart h T 0 (by decide) else if k = 1 then longPart h T 1 (by decide)
      else if k = 2 then longPart h T 2 (by decide) else longPart h T 3 (by decide) := by
  obtain rfl | rfl | rfl | rfl : k = 0 ∨ k = 1 ∨ k = 2 ∨ k = 3 := by omega
  all_goals rfl

/-- One product of the hidden row with a row of the matrix. -/
theorem longPart_apply (hid : FVec Ideal S64 .f32) (T : FVec Ideal S1000000x64 .f32) (k : ℕ) (hk : k < 4) (i : Fin 25) (r : Fin 10000) :
    longPart (F := Ideal) (shapeCast S1x64 hid shapeCasts_S64_S1x64) T k hk (ix3 i 0 r)
      = ∑ q : Fin 64, hid (ix1 q) * T (ix2 ⟨(4 * i.val + k) * 10000 + r.val, by omega⟩ q) := by
  unfold longPart
  pointwise [k1_pay2, rowsBlock]

/-- The kernel's long products are the reference's. -/
theorem long_eq (hid : FVec Ideal S64 .f32) (T : FVec Ideal S1000000x64 .f32) :
    layOut (longPart (F := Ideal) (shapeCast S1x64 hid shapeCasts_S64_S1x64) T 0 (by decide)) (longPart (F := Ideal) (shapeCast S1x64 hid shapeCasts_S64_S1x64) T 1 (by decide))
      (longPart (F := Ideal) (shapeCast S1x64 hid shapeCasts_S64_S1x64) T 2 (by decide)) (longPart (F := Ideal) (shapeCast S1x64 hid shapeCasts_S64_S1x64) T 3 (by decide))
      = Host.dotGeneral (F := Ideal) (φ₁ := .f32) (φ₂ := .f32) Cert.ReferenceIdeal.dot_S1000000x64_S64_S1000000_1_0_0_n_n_n none T hid := by
  funext j
  idx_vars j
  rw [layOut_apply _ _ _ _ j0 (longPart (F := Ideal) (shapeCast S1x64 hid shapeCasts_S64_S1x64) T (j0.val / 10000 % 4) (Nat.mod_lt _ (by decide))) (longPart_cases _ _ _ _)]
  rw [longPart_apply]
  pointwise
  refine Finset.sum_congr rfl fun q _ => ?_
  rw [mul_comm]
  congr 3
  exact Fin.ext (by show (4 * (j0.val / 40000) + j0.val / 10000 % 4) * 10000 + j0.val % 10000 = j0.val; omega)

end Cert.Agree

end
-- ==== Proof.Algebraic.lean ====
module

public import proofs.«01_k».proof.Proof.Frames
public import proofs.«01_k».proof.Proof.IdealResults
public import proofs.«01_k».proof.Proof.TokenRows
public import proofs.«01_k».proof.Proof.ThreeRows
public import proofs.«01_k».proof.Proof.LongOut

/-! The value claim: over the extended reals, with the words in range, both programs end with the same two results. -/

@[expose] public section

noncomputable section

namespace Cert.Agree

open Idealize.ShloMosaic Idealize.ShloMosaic.TcCoe Idealize.SL.Sem
open Cert.KernelIdeal.Gen Cert.KernelIdeal.Run

variable (m : (ℓ : Loc Cert.KernelIdeal.nD Cert.KernelIdeal.τ Cert.KernelIdeal.sig) → Buf (Elt Ideal) ℓ) (ρ : Dev Cert.KernelIdeal.nD → PrngReg)

/-- The reference's hidden layer of the arguments in the kernel's memory. -/
abbrev hiddenR (c : Dev Cert.KernelIdeal.nD) : FVec Ideal Cert.KernelIdeal.S64 .f32 :=
  Cert.ReferenceIdeal.Value.hiddenOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))

/-- The kernel's hidden layer is the reference's. -/
theorem hidden_eq (h : InRange m) (c : Dev Cert.KernelIdeal.nD) : hiddenM m ρ h c = hiddenR m c := by
  unfold hiddenM hiddenK hiddenR Cert.ReferenceIdeal.Value.hiddenOf
  rw [mean_eq, rows_eq (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) _ _ _ _ _ _ _
    (idx0_eq m ρ c) (idx1_eq m ρ c) (idx2_eq m ρ c) (h c).2.1 (h c).2.2.1 (h c).2.2.2]

/-- The kernel's scalar result is the reference's function of the arguments, -/
theorem scalar_eq (h : InRange m) (c : Dev Cert.KernelIdeal.nD) : W5 m ρ c (Proc.devRef .tc Cert.KernelIdeal.main_v16)
    = Cert.ReferenceIdeal.Value.scalarOf (F := Ideal) (hiddenR m c) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) := by
  rw [W5_v16 m ρ h c, hidden_eq m ρ h c]
/-- and so its long result. -/
theorem long_result_eq (h : InRange m) (c : Dev Cert.KernelIdeal.nD) : W5 m ρ c (Proc.devRef .tc Cert.KernelIdeal.main_v29)
    = Cert.ReferenceIdeal.Value.longOf (F := Ideal) (hiddenR m c) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) := by
  rw [W5_v29 m ρ h c, hidden_eq m ρ h c, long_eq]
  rfl

/-- The reference's results depend on their arguments alone: the scalar one, -/
theorem scalar_congr {a0 b0 : IVec Cert.KernelIdeal.S200 32} (e0 : a0 = b0) {a1 b1 : IVec Cert.KernelIdeal.S_ 32} (e1 : a1 = b1) {a2 b2 : IVec Cert.KernelIdeal.S_ 32} (e2 : a2 = b2) {a3 b3 : IVec Cert.KernelIdeal.S_ 32} (e3 : a3 = b3) {a4 b4 : FVec Ideal Cert.KernelIdeal.S3 .f32} (e4 : a4 = b4) {a5 b5 : FVec Ideal Cert.KernelIdeal.S1000000x64 .f32} (e5 : a5 = b5) {a6 b6 : FVec Ideal Cert.KernelIdeal.S2048x64 .f32} (e6 : a6 = b6) {a7 b7 : FVec Ideal Cert.KernelIdeal.S2048x64 .f32} (e7 : a7 = b7) {a8 b8 : FVec Ideal Cert.KernelIdeal.S64x64 .f32} (e8 : a8 = b8) {a9 b9 : FVec Ideal Cert.KernelIdeal.S64x3 .f32} (e9 : a9 = b9) {a10 b10 : FVec Ideal Cert.KernelIdeal.S64 .f32} (e10 : a10 = b10) {a11 b11 : FVec Ideal Cert.KernelIdeal.S64x128 .f32} (e11 : a11 = b11) {a12 b12 : FVec Ideal Cert.KernelIdeal.S64 .f32} (e12 : a12 = b12) {a13 b13 : FVec Ideal Cert.KernelIdeal.S1x64 .f32} (e13 : a13 = b13) {a14 b14 : FVec Ideal Cert.KernelIdeal.S1 .f32} (e14 : a14 = b14) :
    Cert.ReferenceIdeal.Value.scalarOf (F := Ideal) (Cert.ReferenceIdeal.Value.hiddenOf a0 a1 a2 a3 a4 a5 a6 a7 a8 a9 a10 a11 a12) a13 a14 = Cert.ReferenceIdeal.Value.scalarOf (F := Ideal) (Cert.ReferenceIdeal.Value.hiddenOf b0 b1 b2 b3 b4 b5 b6 b7 b8 b9 b10 b11 b12) b13 b14 := by
  subst e0
  subst e1
  subst e2
  subst e3
  subst e4
  subst e5
  subst e6
  subst e7
  subst e8
  subst e9
  subst e10
  subst e11
  subst e12
  subst e13
  subst e14
  rfl
/-- and the long one. -/
theorem long_congr {a0 b0 : IVec Cert.KernelIdeal.S200 32} (e0 : a0 = b0) {a1 b1 : IVec Cert.KernelIdeal.S_ 32} (e1 : a1 = b1) {a2 b2 : IVec Cert.KernelIdeal.S_ 32} (e2 : a2 = b2) {a3 b3 : IVec Cert.KernelIdeal.S_ 32} (e3 : a3 = b3) {a4 b4 : FVec Ideal Cert.KernelIdeal.S3 .f32} (e4 : a4 = b4) {a5 b5 : FVec Ideal Cert.KernelIdeal.S1000000x64 .f32} (e5 : a5 = b5) {a6 b6 : FVec Ideal Cert.KernelIdeal.S2048x64 .f32} (e6 : a6 = b6) {a7 b7 : FVec Ideal Cert.KernelIdeal.S2048x64 .f32} (e7 : a7 = b7) {a8 b8 : FVec Ideal Cert.KernelIdeal.S64x64 .f32} (e8 : a8 = b8) {a9 b9 : FVec Ideal Cert.KernelIdeal.S64x3 .f32} (e9 : a9 = b9) {a10 b10 : FVec Ideal Cert.KernelIdeal.S64 .f32} (e10 : a10 = b10) {a11 b11 : FVec Ideal Cert.KernelIdeal.S64x128 .f32} (e11 : a11 = b11) {a12 b12 : FVec Ideal Cert.KernelIdeal.S64 .f32} (e12 : a12 = b12) {a15 b15 : FVec Ideal Cert.KernelIdeal.S1000000x64 .f32} (e15 : a15 = b15) {a16 b16 : FVec Ideal Cert.KernelIdeal.S1000000 .f32} (e16 : a16 = b16) :
    Cert.ReferenceIdeal.Value.longOf (F := Ideal) (Cert.ReferenceIdeal.Value.hiddenOf a0 a1 a2 a3 a4 a5 a6 a7 a8 a9 a10 a11 a12) a15 a16 = Cert.ReferenceIdeal.Value.longOf (F := Ideal) (Cert.ReferenceIdeal.Value.hiddenOf b0 b1 b2 b3 b4 b5 b6 b7 b8 b9 b10 b11 b12) b15 b16 := by
  subst e0
  subst e1
  subst e2
  subst e3
  subst e4
  subst e5
  subst e6
  subst e7
  subst e8
  subst e9
  subst e10
  subst e11
  subst e12
  subst e15
  subst e16
  rfl

variable (m' : (ℓ : Loc Cert.ReferenceIdeal.nD Cert.ReferenceIdeal.τ Cert.ReferenceIdeal.sig) → Buf (Elt Ideal) ℓ) (c : Dev Cert.KernelIdeal.nD)

/-- A core's two memories hold the same arguments. -/
abbrev Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)

/-- The reference's scalar result of its own memory is that of the kernel's, where the two hold the same arguments; -/
theorem scalarAt_eq (h : Agree m m' c) :
    Cert.ReferenceIdeal.Value.scalarOf (F := Ideal) (Cert.ReferenceIdeal.Value.hiddenAt c m') (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14))
      = Cert.ReferenceIdeal.Value.scalarOf (F := Ideal) (hiddenR m c) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) :=
  scalar_congr h.1 h.2.1 h.2.2.1 h.2.2.2.1 h.2.2.2.2.1 h.2.2.2.2.2.1 h.2.2.2.2.2.2.1 h.2.2.2.2.2.2.2.1 h.2.2.2.2.2.2.2.2.1 h.2.2.2.2.2.2.2.2.2.1 h.2.2.2.2.2.2.2.2.2.2.1 h.2.2.2.2.2.2.2.2.2.2.2.1 h.2.2.2.2.2.2.2.2.2.2.2.2.1 h.2.2.2.2.2.2.2.2.2.2.2.2.2.1 h.2.2.2.2.2.2.2.2.2.2.2.2.2.2.1
/-- so the long result. -/
theorem longAt_eq (h : Agree m m' c) :
    Cert.ReferenceIdeal.Value.longOf (F := Ideal) (Cert.ReferenceIdeal.Value.hiddenAt c m') (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16))
      = Cert.ReferenceIdeal.Value.longOf (F := Ideal) (hiddenR m c) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) :=
  long_congr h.1 h.2.1 h.2.2.1 h.2.2.2.1 h.2.2.2.2.1 h.2.2.2.2.2.1 h.2.2.2.2.2.2.1 h.2.2.2.2.2.2.2.1 h.2.2.2.2.2.2.2.2.1 h.2.2.2.2.2.2.2.2.2.1 h.2.2.2.2.2.2.2.2.2.2.1 h.2.2.2.2.2.2.2.2.2.2.2.1 h.2.2.2.2.2.2.2.2.2.2.2.2.1 h.2.2.2.2.2.2.2.2.2.2.2.2.2.2.2.1 h.2.2.2.2.2.2.2.2.2.2.2.2.2.2.2.2

/-- The two programs agree. -/
theorem algebraic : Cert.algebraic_KernelIdeal_ReferenceIdeal := fun m g m' g' hm hargs =>
  have hr := Cert.Frames.inRange_KernelIdeal m hm
  ⟨fun c => W5 m g c (Proc.devRef .tc Cert.KernelIdeal.main_v16), fun c => W5 m g c (Proc.devRef .tc Cert.KernelIdeal.main_v29),
  (θ_run Cert.KernelIdeal.defs _ _).mono (fun r h c => ⟨
    h.1 c _ (Cert.KernelIdeal.Run.mem_uc Cert.KernelIdeal.main_v16 (by decide)),
    h.1 c _ (Cert.KernelIdeal.Run.mem_uc Cert.KernelIdeal.main_v29 (by decide)),
    (h.1 c _ (Cert.KernelIdeal.Run.mem_uc Cert.KernelIdeal.main_arg0 (by decide))).trans (Cert.KernelIdeal.Run.W5_main_arg0 m g c),
    (h.1 c _ (Cert.KernelIdeal.Run.mem_uc Cert.KernelIdeal.main_arg1 (by decide))).trans (Cert.KernelIdeal.Run.W5_main_arg1 m g c),
    (h.1 c _ (Cert.KernelIdeal.Run.mem_uc Cert.KernelIdeal.main_arg2 (by decide))).trans (Cert.KernelIdeal.Run.W5_main_arg2 m g c),
    (h.1 c _ (Cert.KernelIdeal.Run.mem_uc Cert.KernelIdeal.main_arg3 (by decide))).trans (Cert.KernelIdeal.Run.W5_main_arg3 m g c),
    (h.1 c _ (Cert.KernelIdeal.Run.mem_uc Cert.KernelIdeal.main_arg4 (by decide))).trans (Cert.KernelIdeal.Run.W5_main_arg4 m g c),
    (h.1 c _ (Cert.KernelIdeal.Run.mem_uc Cert.KernelIdeal.main_arg5 (by decide))).trans (Cert.KernelIdeal.Run.W5_main_arg5 m g c),
    (h.1 c _ (Cert.KernelIdeal.Run.mem_uc Cert.KernelIdeal.main_arg6 (by decide))).trans (Cert.KernelIdeal.Run.W5_main_arg6 m g c),
    (h.1 c _ (Cert.KernelIdeal.Run.mem_uc Cert.KernelIdeal.main_arg7 (by decide))).trans (Cert.KernelIdeal.Run.W5_main_arg7 m g c),
    (h.1 c _ (Cert.KernelIdeal.Run.mem_uc Cert.KernelIdeal.main_arg8 (by decide))).trans (Cert.KernelIdeal.Run.W5_main_arg8 m g c),
    (h.1 c _ (Cert.KernelIdeal.Run.mem_uc Cert.KernelIdeal.main_arg9 (by decide))).trans (Cert.KernelIdeal.Run.W5_main_arg9 m g c),
    (h.1 c _ (Cert.KernelIdeal.Run.mem_uc Cert.KernelIdeal.main_arg10 (by decide))).trans (Cert.KernelIdeal.Run.W5_main_arg10 m g c),
    (h.1 c _ (Cert.KernelIdeal.Run.mem_uc Cert.KernelIdeal.main_arg11 (by decide))).trans (Cert.KernelIdeal.Run.W5_main_arg11 m g c),
    (h.1 c _ (Cert.KernelIdeal.Run.mem_uc Cert.KernelIdeal.main_arg12 (by decide))).trans (Cert.KernelIdeal.Run.W5_main_arg12 m g c),
    (h.1 c _ (Cert.KernelIdeal.Run.mem_uc Cert.KernelIdeal.main_arg13 (by decide))).trans (Cert.KernelIdeal.Run.W5_main_arg13 m g c),
    (h.1 c _ (Cert.KernelIdeal.Run.mem_uc Cert.KernelIdeal.main_arg14 (by decide))).trans (Cert.KernelIdeal.Run.W5_main_arg14 m g c),
    (h.1 c _ (Cert.KernelIdeal.Run.mem_uc Cert.KernelIdeal.main_arg15 (by decide))).trans (Cert.KernelIdeal.Run.W5_main_arg15 m g c),
    (h.1 c _ (Cert.KernelIdeal.Run.mem_uc Cert.KernelIdeal.main_arg16 (by decide))).trans (Cert.KernelIdeal.Run.W5_main_arg16 m g c)⟩)
    (Cert.KernelIdeal.Run.runs m g (Cert.KernelIdeal.Run.words_in m g hr)),
  (θ_run Cert.ReferenceIdeal.defs _ _).mono (fun r h c => by
    have e := h c
    exact ⟨e.1.trans ((scalarAt_eq m m' c (hargs c)).trans (scalar_eq m g hr c).symm),
      e.2.1.trans ((longAt_eq m m' c (hargs c)).trans (long_result_eq m g hr c).symm), e.2.2⟩)
    (Cert.ReferenceIdeal.Value.run (F := Ideal) m' g')⟩

end Cert.Agree

end
-- ==== Proof.lean ====
module

public import proofs.«01_k».proof.Defs
public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.Pre_in_range

/-! Everything claimed of this kernel: the kernel at machine words, the kernel with its constant exact and the reference each end with
their arguments unchanged and their semaphores at zero; the exact constant is what its name says; and over the extended reals the
kernel and the reference end with the same results. -/

@[expose] public section

noncomputable section

namespace Cert.Proof

/-- The claims, from the modules that prove them. -/
theorem claim : Cert.Claim :=
  ⟨Cert.Kernel.Gen.facts, Cert.KernelIdeal.Gen.facts, Cert.ReferenceIdeal.Gen.facts, Cert.Pre_in_range.Gen.facts,
    Cert.Frames.frame_Kernel, Cert.Frames.frame_KernelIdeal, Cert.Frames.frame_ReferenceIdeal, Cert.Frames.frame_ReferenceIdeal_in_range,
    Cert.Frames.preserves, Cert.Agree.algebraic⟩

end Cert.Proof

end
